-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v202)) (v1 : (c : Dev Cert.KernelIdeal.nD) → Buf (Elt Ideal) ((c.tc : Thread Cert.KernelIdeal.nD Cert.KernelIdeal.τ).loc Cert.KernelIdeal.main_v203)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_v203) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v283) = v0 c
          ∧ r.2.mem ((c.tc : Thread Cert.ReferenceIdeal.nD Cert.ReferenceIdeal.τ).loc Cert.ReferenceIdeal.main_v284) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x256x64x64 : Shape := ⟨4, ![2, 256, 64, 64]⟩
abbrev S2x512x32x32 : Shape := ⟨4, ![2, 512, 32, 32]⟩
abbrev S2x1024x16x16 : Shape := ⟨4, ![2, 1024, 16, 16]⟩
abbrev S_ : Shape := ⟨0, ![]⟩
abbrev S2x1x64x64 : Shape := ⟨4, ![2, 1, 64, 64]⟩
abbrev S256x258 : Shape := ⟨2, ![256, 258]⟩
abbrev S256 : Shape := ⟨1, ![256]⟩
abbrev S512x514 : Shape := ⟨2, ![512, 514]⟩
abbrev S512 : Shape := ⟨1, ![512]⟩
abbrev S1024x1026 : Shape := ⟨2, ![1024, 1026]⟩
abbrev S1024 : Shape := ⟨1, ![1024]⟩
abbrev S1792x4096 : Shape := ⟨2, ![1792, 4096]⟩

class Facts : Prop where
  bcast_S_S2x256x64x64 : S_.BroadcastsInDim S2x256x64x64 (![] : Fin 0 → Fin S2x256x64x64.rank)
  bcast_S_S2x512x32x32 : S_.BroadcastsInDim S2x512x32x32 (![] : Fin 0 → Fin S2x512x32x32.rank)
  bcast_S_S2x1024x16x16 : S_.BroadcastsInDim S2x1024x16x16 (![] : Fin 0 → Fin S2x1024x16x16.rank)
  bcast_S_S256x258 : S_.BroadcastsInDim S256x258 (![] : Fin 0 → Fin S256x258.rank)
  bcast_S_S256 : S_.BroadcastsInDim S256 (![] : Fin 0 → Fin S256.rank)
  bcast_S_S512x514 : S_.BroadcastsInDim S512x514 (![] : Fin 0 → Fin S512x514.rank)
  bcast_S_S512 : S_.BroadcastsInDim S512 (![] : Fin 0 → Fin S512.rank)
  bcast_S_S1024x1026 : S_.BroadcastsInDim S1024x1026 (![] : Fin 0 → Fin S1024x1026.rank)
  bcast_S_S1024 : S_.BroadcastsInDim S1024 (![] : Fin 0 → Fin S1024.rank)
  bcast_S_S1792x4096 : S_.BroadcastsInDim S1792x4096 (![] : Fin 0 → Fin S1792x4096.rank)

variable [Facts]

def fn_part1 {F : FTy → Type} [FloatOps F] (main_arg8 : FVec F S512 .f32) (main_arg9 : FVec F S1024x1026 .f32) (main_arg10 : FVec F S1024 .f32) (main_arg11 : FVec F S1792x4096 .f32) (main_v2 : IVec S2x256x64x64 1) (main_v5 : IVec S2x512x32x32 1) (main_v8 : IVec S2x1024x16x16 1) (main_v11 : IVec S256x258 1) (main_v14 : IVec S256 1) (main_v17 : IVec S512x514 1) : IVec S2x256x64x64 1 × IVec S2x512x32x32 1 × IVec S2x1024x16x16 1 × IVec S256x258 1 × IVec S256 1 × IVec S512x514 1 × IVec S512 1 × IVec S1024x1026 1 × IVec S1024 1 × IVec S1792x4096 1 :=
  let main_v18 : FVec F S512 .f32 := Host.absf main_arg8
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S1024x1026 .f32 := Host.absf main_arg9
  let main_cst_6 : FVec F S_ .f32 := constant S_ .f32 0x7F800000#32
  let main_v22 : FVec F S1024x1026 .f32 := broadcastInDim S1024x1026 ![] bcast_S_S1024x1026 main_cst_6
  let main_v23 : IVec S1024x1026 1 := cmpf .olt main_v21 main_v22
  let main_v24 : FVec F S1024 .f32 := Host.absf main_arg10
  let main_cst_7 : FVec F S_ .f32 := constant S_ .f32 0x7F800000#32
  let main_v25 : FVec F S1024 .f32 := broadcastInDim S1024 ![] bcast_S_S1024 main_cst_7
  let main_v26 : IVec S1024 1 := cmpf .olt main_v24 main_v25
  let main_v27 : FVec F S1792x4096 .f32 := Host.absf main_arg11
  let main_cst_8 : FVec F S_ .f32 := constant S_ .f32 0x7F800000#32
  let main_v28 : FVec F S1792x4096 .f32 := broadcastInDim S1792x4096 ![] bcast_S_S1792x4096 main_cst_8
  let main_v29 : IVec S1792x4096 1 := cmpf .olt main_v27 main_v28
  (main_v2, main_v5, main_v8, main_v11, main_v14, main_v17, main_v20, main_v23, main_v26, main_v29)

def fn {F : FTy → Type} [FloatOps F] (main_arg0 : FVec F S2x256x64x64 .f32) (main_arg1 : FVec F S2x512x32x32 .f32) (main_arg2 : FVec F S2x1024x16x16 .f32) (main_arg3 : IVec S_ 32) (main_arg4 : FVec F S2x1x64x64 .f32) (main_arg5 : FVec F S256x258 .f32) (main_arg6 : FVec F S256 .f32) (main_arg7 : FVec F S512x514 .f32) (main_arg8 : FVec F S512 .f32) (main_arg9 : FVec F S1024x1026 .f32) (main_arg10 : FVec F S1024 .f32) (main_arg11 : FVec F S1792x4096 .f32) : IVec S2x256x64x64 1 × IVec S2x512x32x32 1 × IVec S2x1024x16x16 1 × IVec S256x258 1 × IVec S256 1 × IVec S512x514 1 × IVec S512 1 × IVec S1024x1026 1 × IVec S1024 1 × IVec S1792x4096 1 :=
  let main_v0 : FVec F S2x256x64x64 .f32 := Host.absf main_arg0
  let main_cst : FVec F S_ .f32 := constant S_ .f32 0x7F800000#32
  let main_v1 : FVec F S2x256x64x64 .f32 := broadcastInDim S2x256x64x64 ![] bcast_S_S2x256x64x64 main_cst
  let main_v2 : IVec S2x256x64x64 1 := cmpf .olt main_v0 main_v1
  let main_v3 : FVec F S2x512x32x32 .f32 := Host.absf main_arg1
  let main_cst_0 : FVec F S_ .f32 := constant S_ .f32 0x7F800000#32
  let main_v4 : FVec F S2x512x32x32 .f32 := broadcastInDim S2x512x32x32 ![] bcast_S_S2x512x32x32 main_cst_0
  let main_v5 : IVec S2x512x32x32 1 := cmpf .olt main_v3 main_v4
  let main_v6 : FVec F S2x1024x16x16 .f32 := Host.absf main_arg2
  let main_cst_1 : FVec F S_ .f32 := constant S_ .f32 0x7F800000#32
  let main_v7 : FVec F S2x1024x16x16 .f32 := broadcastInDim S2x1024x16x16 ![] bcast_S_S2x1024x16x16 main_cst_1
  let main_v8 : IVec S2x1024x16x16 1 := cmpf .olt main_v6 main_v7
  let main_v9 : FVec F S256x258 .f32 := Host.absf main_arg5
  let main_cst_2 : FVec F S_ .f32 := constant S_ .f32 0x7F800000#32
  let main_v10 : FVec F S256x258 .f32 := broadcastInDim S256x258 ![] bcast_S_S256x258 main_cst_2
  let main_v11 : IVec S256x258 1 := cmpf .olt main_v9 main_v10
  let main_v12 : FVec F S256 .f32 := Host.absf main_arg6
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S512x514 .f32 := Host.absf main_arg7
  let main_cst_4 : FVec F S_ .f32 := constant S_ .f32 0x7F800000#32
  let main_v16 : FVec F S512x514 .f32 := broadcastInDim S512x514 ![] bcast_S_S512x514 main_cst_4
  let main_v17 : IVec S512x514 1 := cmpf .olt main_v15 main_v16
  fn_part1 (F := F) main_arg8 main_arg9 main_arg10 main_arg11 main_v2 main_v5 main_v8 main_v11 main_v14 main_v17
-- ==== Kernel.lean ====
abbrev S2x256x64x64 : Shape := ⟨4, ![2, 256, 64, 64]⟩
abbrev S2x512x32x32 : Shape := ⟨4, ![2, 512, 32, 32]⟩
abbrev S2x1024x16x16 : Shape := ⟨4, ![2, 1024, 16, 16]⟩
abbrev S_ : Shape := ⟨0, ![]⟩
abbrev S2x1x64x64 : Shape := ⟨4, ![2, 1, 64, 64]⟩
abbrev S256x258 : Shape := ⟨2, ![256, 258]⟩
abbrev S256 : Shape := ⟨1, ![256]⟩
abbrev S512x514 : Shape := ⟨2, ![512, 514]⟩
abbrev S512 : Shape := ⟨1, ![512]⟩
abbrev S1024x1026 : Shape := ⟨2, ![1024, 1026]⟩
abbrev S1024 : Shape := ⟨1, ![1024]⟩
abbrev S1792x4096 : Shape := ⟨2, ![1792, 4096]⟩
abbrev S64 : Shape := ⟨1, ![64]⟩
abbrev S1x1x1x64 : Shape := ⟨4, ![1, 1, 1, 64]⟩
abbrev S1x1x64x1 : Shape := ⟨4, ![1, 1, 64, 1]⟩
abbrev S2x258x64x64 : Shape := ⟨4, ![2, 258, 64, 64]⟩
abbrev S256x2x64x64 : Shape := ⟨4, ![256, 2, 64, 64]⟩
abbrev S1x256x1x1 : Shape := ⟨4, ![1, 256, 1, 1]⟩
abbrev S32 : Shape := ⟨1, ![32]⟩
abbrev S1x1x1x32 : Shape := ⟨4, ![1, 1, 1, 32]⟩
abbrev S2x1x32x32 : Shape := ⟨4, ![2, 1, 32, 32]⟩
abbrev S1x1x32x1 : Shape := ⟨4, ![1, 1, 32, 1]⟩
abbrev S2x514x32x32 : Shape := ⟨4, ![2, 514, 32, 32]⟩
abbrev S512x2x32x32 : Shape := ⟨4, ![512, 2, 32, 32]⟩
abbrev S1x512x1x1 : Shape := ⟨4, ![1, 512, 1, 1]⟩
abbrev S1x64 : Shape := ⟨2, ![1, 64]⟩
abbrev S32x1 : Shape := ⟨2, ![32, 1]⟩
abbrev S32x64 : Shape := ⟨2, ![32, 64]⟩
abbrev S2x512x32x1x32 : Shape := ⟨5, ![2, 512, 32, 1, 32]⟩
abbrev S1x1x32x64x1 : Shape := ⟨5, ![1, 1, 32, 64, 1]⟩
abbrev S2x512x32x64x32 : Shape := ⟨5, ![2, 512, 32, 64, 32]⟩
abbrev S2x512x64x32 : Shape := ⟨4, ![2, 512, 64, 32]⟩
abbrev S2x512x64x32x1 : Shape := ⟨5, ![2, 512, 64, 32, 1]⟩
abbrev S1x1x1x32x64 : Shape := ⟨5, ![1, 1, 1, 32, 64]⟩
abbrev S2x512x64x32x64 : Shape := ⟨5, ![2, 512, 64, 32, 64]⟩
abbrev S2x512x64x64 : Shape := ⟨4, ![2, 512, 64, 64]⟩
abbrev S16 : Shape := ⟨1, ![16]⟩
abbrev S1x1x1x16 : Shape := ⟨4, ![1, 1, 1, 16]⟩
abbrev S2x1x16x16 : Shape := ⟨4, ![2, 1, 16, 16]⟩
abbrev S1x1x16x1 : Shape := ⟨4, ![1, 1, 16, 1]⟩
abbrev S2x1026x16x16 : Shape := ⟨4, ![2, 1026, 16, 16]⟩
abbrev S1024x2x16x16 : Shape := ⟨4, ![1024, 2, 16, 16]⟩
abbrev S1x1024x1x1 : Shape := ⟨4, ![1, 1024, 1, 1]⟩
abbrev S16x1 : Shape := ⟨2, ![16, 1]⟩
abbrev S16x64 : Shape := ⟨2, ![16, 64]⟩
abbrev S2x1024x16x1x16 : Shape := ⟨5, ![2, 1024, 16, 1, 16]⟩
abbrev S1x1x16x64x1 : Shape := ⟨5, ![1, 1, 16, 64, 1]⟩
abbrev S2x1024x16x64x16 : Shape := ⟨5, ![2, 1024, 16, 64, 16]⟩
abbrev S2x1024x64x16 : Shape := ⟨4, ![2, 1024, 64, 16]⟩
abbrev S2x1024x64x16x1 : Shape := ⟨5, ![2, 1024, 64, 16, 1]⟩
abbrev S1x1x1x16x64 : Shape := ⟨5, ![1, 1, 1, 16, 64]⟩
abbrev S2x1024x64x16x64 : Shape := ⟨5, ![2, 1024, 64, 16, 64]⟩
abbrev S2x1024x64x64 : Shape := ⟨4, ![2, 1024, 64, 64]⟩
abbrev S2x1792x64x64 : Shape := ⟨4, ![2, 1792, 64, 64]⟩
abbrev S2x1792x4096 : Shape := ⟨3, ![2, 1792, 4096]⟩
abbrev S2x4096x1792 : Shape := ⟨3, ![2, 4096, 1792]⟩
abbrev S8192x1792 : Shape := ⟨2, ![8192, 1792]⟩
abbrev S8192x256 : Shape := ⟨2, ![8192, 256]⟩
abbrev S128x1792 : Shape := ⟨2, ![128, 1792]⟩
abbrev S128x256 : Shape := ⟨2, ![128, 256]⟩
abbrev S8x4096 : Shape := ⟨2, ![8, 4096]⟩
abbrev S4096 : Shape := ⟨1, ![4096]⟩
abbrev S1x4096 : Shape := ⟨2, ![1, 4096]⟩
abbrev S128 : Shape := ⟨1, ![128]⟩
abbrev S128x1 : Shape := ⟨2, ![128, 1]⟩
abbrev S128x4096 : Shape := ⟨2, ![128, 4096]⟩
abbrev S128x128 : Shape := ⟨2, ![128, 128]⟩
abbrev S128x2048 : Shape := ⟨2, ![128, 2048]⟩
abbrev S1x2048 : Shape := ⟨2, ![1, 2048]⟩
abbrev S128x1024 : Shape := ⟨2, ![128, 1024]⟩
abbrev S1x1024 : Shape := ⟨2, ![1, 1024]⟩
abbrev S128x512 : Shape := ⟨2, ![128, 512]⟩
abbrev S1x512 : Shape := ⟨2, ![1, 512]⟩
abbrev S1x256 : Shape := ⟨2, ![1, 256]⟩
abbrev S8192x200 : Shape := ⟨2, ![8192, 200]⟩
abbrev S2x64x64x200 : Shape := ⟨4, ![2, 64, 64, 200]⟩
abbrev S2x200x64x64 : Shape := ⟨4, ![2, 200, 64, 64]⟩
abbrev S2x896x64x64 : Shape := ⟨4, ![2, 896, 64, 64]⟩

abbrev nBuf : Space → Nat
  | .hbm => 291
  | .vmem => 6
  | .smem => 0
  | _ => 0

abbrev hbmTy0_0 (i : Nat) : BufTy := match i % 128 with
  | 0 => ⟨S2x256x64x64, .f32⟩
  | 1 => ⟨S2x512x32x32, .f32⟩
  | 2 => ⟨S2x1024x16x16, .f32⟩
  | 3 => ⟨S_, .i32⟩
  | 4 => ⟨S2x1x64x64, .f32⟩
  | 5 => ⟨S256x258, .f32⟩
  | 6 => ⟨S256, .f32⟩
  | 7 => ⟨S512x514, .f32⟩
  | 8 => ⟨S512, .f32⟩
  | 9 => ⟨S1024x1026, .f32⟩
  | 10 => ⟨S1024, .f32⟩
  | 11 => ⟨S1792x4096, .f32⟩
  | 12 => ⟨S_, .f32⟩
  | 13 => ⟨S_, .f32⟩
  | 14 => ⟨S2x256x64x64, .f32⟩
  | 15 => ⟨S_, .f32⟩
  | 16 => ⟨S2x256x64x64, .f32⟩
  | 17 => ⟨S2x256x64x64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S_, .f32⟩
  | 36 => ⟨S64, .f32⟩
  | 37 => ⟨S64, .f32⟩
  | 38 => ⟨S1x1x1x64, .f32⟩
  | 39 => ⟨S2x1x64x64, .f32⟩
  | 40 => ⟨S1x1x64x1, .f32⟩
  | 41 => ⟨S2x1x64x64, .f32⟩
  | 42 => ⟨S2x258x64x64, .f32⟩
  | 43 => ⟨S256x2x64x64, .f32⟩
  | 44 => ⟨S2x256x64x64, .f32⟩
  | 45 => ⟨S1x256x1x1, .f32⟩
  | 46 => ⟨S2x256x64x64, .f32⟩
  | 47 => ⟨S2x256x64x64, .f32⟩
  | 48 => ⟨S_, .f32⟩
  | 49 => ⟨S_, .f32⟩
  | 50 => ⟨S2x512x32x32, .f32⟩
  | 51 => ⟨S_, .f32⟩
  | 52 => ⟨S2x512x32x32, .f32⟩
  | 53 => ⟨S2x512x32x32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S1x1x1x32, .f32⟩
  | 75 => ⟨S2x1x32x32, .f32⟩
  | 76 => ⟨S1x1x32x1, .f32⟩
  | 77 => ⟨S2x1x32x32, .f32⟩
  | 78 => ⟨S2x514x32x32, .f32⟩
  | 79 => ⟨S512x2x32x32, .f32⟩
  | 80 => ⟨S2x512x32x32, .f32⟩
  | 81 => ⟨S1x512x1x1, .f32⟩
  | 82 => ⟨S2x512x32x32, .f32⟩
  | 83 => ⟨S2x512x32x32, .f32⟩
  | 84 => ⟨S_, .f32⟩
  | 85 => ⟨S_, .f32⟩
  | 86 => ⟨S_, .f32⟩
  | 87 => ⟨S64, .f32⟩
  | 88 => ⟨S_, .f32⟩
  | 89 => ⟨S64, .f32⟩
  | 90 => ⟨S64, .f32⟩
  | 91 => ⟨S_, .f32⟩
  | 92 => ⟨S64, .f32⟩
  | 93 => ⟨S64, .f32⟩
  | 94 => ⟨S_, .f32⟩
  | 95 => ⟨S64, .f32⟩
  | 96 => ⟨S64, .f32⟩
  | 97 => ⟨S_, .f32⟩
  | 98 => ⟨S64, .f32⟩
  | 99 => ⟨S64, .f32⟩
  | 100 => ⟨S32, .f32⟩
  | 101 => ⟨S1x64, .f32⟩
  | 102 => ⟨S32x1, .f32⟩
  | 103 => ⟨S32x64, .f32⟩
  | 104 => ⟨S32x64, .f32⟩
  | 105 => ⟨S32x64, .f32⟩
  | 106 => ⟨S32x64, .f32⟩
  | 107 => ⟨S_, .f32⟩
  | 108 => ⟨S32x64, .f32⟩
  | 109 => ⟨S32x64, .f32⟩
  | 110 => ⟨S32x64, .f32⟩
  | 111 => ⟨S_, .f32⟩
  | 112 => ⟨S32x64, .f32⟩
  | 113 => ⟨S32x64, .f32⟩
  | 114 => ⟨S_, .f32⟩
  | 115 => ⟨S32x64, .f32⟩
  | 116 => ⟨S32x64, .f32⟩
  | 117 => ⟨S_, .f32⟩
  | 118 => ⟨S64, .f32⟩
  | 119 => ⟨S1x64, .f32⟩
  | 120 => ⟨S1x64, .f32⟩
  | 121 => ⟨S_, .f32⟩
  | 122 => ⟨S1x64, .f32⟩
  | 123 => ⟨S1x64, .i1⟩
  | 124 => ⟨S_, .f32⟩
  | 125 => ⟨S1x64, .f32⟩
  | 126 => ⟨S1x64, .i1⟩
  | 127 => ⟨S_, .i32⟩
  | _ => ⟨S2x256x64x64, .f32⟩

abbrev hbmTy0_1 (i : Nat) : BufTy := match i % 128 with
  | 0 => ⟨S_, .f32⟩
  | 1 => ⟨S1x64, .f32⟩
  | 2 => ⟨S1x64, .f32⟩
  | 3 => ⟨S32x64, .f32⟩
  | 4 => ⟨S32x64, .f32⟩
  | 5 => ⟨S_, .i32⟩
  | 6 => ⟨S_, .f32⟩
  | 7 => ⟨S32x64, .i1⟩
  | 8 => ⟨S32x64, .f32⟩
  | 9 => ⟨S32x64, .f32⟩
  | 10 => ⟨S_, .f32⟩
  | 11 => ⟨S64, .f32⟩
  | 12 => ⟨S64, .i1⟩
  | 13 => ⟨S_, .f32⟩
  | 14 => ⟨S64, .f32⟩
  | 15 => ⟨S64, .i1⟩
  | 16 => ⟨S64, .i1⟩
  | 17 => ⟨S1x64, .i1⟩
  | 18 => ⟨S_, .i32⟩
  | 19 => ⟨S_, .f32⟩
  | 20 => ⟨S32x64, .i1⟩
  | 21 => ⟨S32x64, .f32⟩
  | 22 => ⟨S32x64, .f32⟩
  | 23 => ⟨S2x512x32x1x32, .f32⟩
  | 24 => ⟨S1x1x32x64x1, .f32⟩
  | 25 => ⟨S2x512x32x64x32, .f32⟩
  | 26 => ⟨S2x512x32x64x32, .f32⟩
  | 27 => ⟨S2x512x32x64x32, .f32⟩
  | 28 => ⟨S_, .f32⟩
  | 29 => ⟨S2x512x64x32, .f32⟩
  | 30 => ⟨S2x512x64x32x1, .f32⟩
  | 31 => ⟨S1x1x1x32x64, .f32⟩
  | 32 => ⟨S2x512x64x32x64, .f32⟩
  | 33 => ⟨S2x512x64x32x64, .f32⟩
  | 34 => ⟨S2x512x64x32x64, .f32⟩
  | 35 => ⟨S_, .f32⟩
  | 36 => ⟨S2x512x64x64, .f32⟩
  | 37 => ⟨S_, .f32⟩
  | 38 => ⟨S_, .f32⟩
  | 39 => ⟨S2x1024x16x16, .f32⟩
  | 40 => ⟨S_, .f32⟩
  | 41 => ⟨S2x1024x16x16, .f32⟩
  | 42 => ⟨S2x1024x16x16, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S_, .f32⟩
  | 61 => ⟨S16, .f32⟩
  | 62 => ⟨S16, .f32⟩
  | 63 => ⟨S1x1x1x16, .f32⟩
  | 64 => ⟨S2x1x16x16, .f32⟩
  | 65 => ⟨S1x1x16x1, .f32⟩
  | 66 => ⟨S2x1x16x16, .f32⟩
  | 67 => ⟨S2x1026x16x16, .f32⟩
  | 68 => ⟨S1024x2x16x16, .f32⟩
  | 69 => ⟨S2x1024x16x16, .f32⟩
  | 70 => ⟨S1x1024x1x1, .f32⟩
  | 71 => ⟨S2x1024x16x16, .f32⟩
  | 72 => ⟨S2x1024x16x16, .f32⟩
  | 73 => ⟨S_, .f32⟩
  | 74 => ⟨S_, .f32⟩
  | 75 => ⟨S_, .f32⟩
  | 76 => ⟨S64, .f32⟩
  | 77 => ⟨S_, .f32⟩
  | 78 => ⟨S64, .f32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S_, .f32⟩
  | 87 => ⟨S64, .f32⟩
  | 88 => ⟨S64, .f32⟩
  | 89 => ⟨S16, .f32⟩
  | 90 => ⟨S1x64, .f32⟩
  | 91 => ⟨S16x1, .f32⟩
  | 92 => ⟨S16x64, .f32⟩
  | 93 => ⟨S16x64, .f32⟩
  | 94 => ⟨S16x64, .f32⟩
  | 95 => ⟨S16x64, .f32⟩
  | 96 => ⟨S_, .f32⟩
  | 97 => ⟨S16x64, .f32⟩
  | 98 => ⟨S16x64, .f32⟩
  | 99 => ⟨S16x64, .f32⟩
  | 100 => ⟨S_, .f32⟩
  | 101 => ⟨S16x64, .f32⟩
  | 102 => ⟨S16x64, .f32⟩
  | 103 => ⟨S_, .f32⟩
  | 104 => ⟨S16x64, .f32⟩
  | 105 => ⟨S16x64, .f32⟩
  | 106 => ⟨S_, .f32⟩
  | 107 => ⟨S64, .f32⟩
  | 108 => ⟨S1x64, .f32⟩
  | 109 => ⟨S1x64, .f32⟩
  | 110 => ⟨S_, .f32⟩
  | 111 => ⟨S1x64, .f32⟩
  | 112 => ⟨S1x64, .i1⟩
  | 113 => ⟨S_, .f32⟩
  | 114 => ⟨S1x64, .f32⟩
  | 115 => ⟨S1x64, .i1⟩
  | 116 => ⟨S_, .i32⟩
  | 117 => ⟨S_, .f32⟩
  | 118 => ⟨S1x64, .f32⟩
  | 119 => ⟨S1x64, .f32⟩
  | 120 => ⟨S16x64, .f32⟩
  | 121 => ⟨S16x64, .f32⟩
  | 122 => ⟨S_, .i32⟩
  | 123 => ⟨S_, .f32⟩
  | 124 => ⟨S16x64, .i1⟩
  | 125 => ⟨S16x64, .f32⟩
  | 126 => ⟨S16x64, .f32⟩
  | 127 => ⟨S_, .f32⟩
  | _ => ⟨S2x256x64x64, .f32⟩

abbrev hbmTy0_2 (i : Nat) : BufTy := match i % 128 with
  | 0 => ⟨S64, .f32⟩
  | 1 => ⟨S64, .i1⟩
  | 2 => ⟨S_, .f32⟩
  | 3 => ⟨S64, .f32⟩
  | 4 => ⟨S64, .i1⟩
  | 5 => ⟨S64, .i1⟩
  | 6 => ⟨S1x64, .i1⟩
  | 7 => ⟨S_, .i32⟩
  | 8 => ⟨S_, .f32⟩
  | 9 => ⟨S16x64, .i1⟩
  | 10 => ⟨S16x64, .f32⟩
  | 11 => ⟨S16x64, .f32⟩
  | 12 => ⟨S2x1024x16x1x16, .f32⟩
  | 13 => ⟨S1x1x16x64x1, .f32⟩
  | 14 => ⟨S2x1024x16x64x16, .f32⟩
  | 15 => ⟨S2x1024x16x64x16, .f32⟩
  | 16 => ⟨S2x1024x16x64x16, .f32⟩
  | 17 => ⟨S_, .f32⟩
  | 18 => ⟨S2x1024x64x16, .f32⟩
  | 19 => ⟨S2x1024x64x16x1, .f32⟩
  | 20 => ⟨S1x1x1x16x64, .f32⟩
  | 21 => ⟨S2x1024x64x16x64, .f32⟩
  | 22 => ⟨S2x1024x64x16x64, .f32⟩
  | 23 => ⟨S2x1024x64x16x64, .f32⟩
  | 24 => ⟨S_, .f32⟩
  | 25 => ⟨S2x1024x64x64, .f32⟩
  | 26 => ⟨S2x1792x64x64, .f32⟩
  | 27 => ⟨S2x1792x4096, .f32⟩
  | 28 => ⟨S2x4096x1792, .f32⟩
  | 29 => ⟨S8192x1792, .f32⟩
  | 30 => ⟨S8192x256, .f32⟩
  | 31 => ⟨S8192x200, .f32⟩
  | 32 => ⟨S2x64x64x200, .f32⟩
  | 33 => ⟨S2x200x64x64, .f32⟩
  | 34 => ⟨S2x896x64x64, .f32⟩
  | _ => ⟨S2x256x64x64, .f32⟩

abbrev hbmTy (i : Nat) : BufTy := match i / 128 with
  | 0 => hbmTy0_0 i
  | 1 => hbmTy0_1 i
  | 2 => hbmTy0_2 i
  | _ => ⟨S2x256x64x64, .f32⟩

abbrev bufTy : (tb : Table) → Fin (tcTables nBuf tb) → BufTy
  | .hbm, ⟨i, _⟩ => hbmTy i
  | .local _ .vmem, ⟨0, _⟩ => ⟨S128x1792, .f32⟩
  | .local _ .vmem, ⟨1, _⟩ => ⟨S128x1792, .f32⟩
  | .local _ .vmem, ⟨2, _⟩ => ⟨S1792x4096, .f32⟩
  | .local _ .vmem, ⟨3, _⟩ => ⟨S128x256, .f32⟩
  | .local _ .vmem, ⟨4, _⟩ => ⟨S128x256, .f32⟩
  | .local _ .vmem, ⟨5, _⟩ => ⟨S8x4096, .f32⟩
  | _, _ => ⟨S2x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_cst_6 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_9 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_cst_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_12 : Ref sig .tc := ⟨.hbm, 65, rfl⟩
abbrev main_v41 : Ref sig .tc := ⟨.hbm, 66, rfl⟩
abbrev main_v42 : Ref sig .tc := ⟨.hbm, 67, rfl⟩
abbrev main_cst_13 : Ref sig .tc := ⟨.hbm, 68, rfl⟩
abbrev main_v43 : Ref sig .tc := ⟨.hbm, 69, rfl⟩
abbrev main_v44 : Ref sig .tc := ⟨.hbm, 70, rfl⟩
abbrev main_cst_14 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_15 : Ref sig .tc := ⟨.hbm, 84, rfl⟩
abbrev main_cst_16 : Ref sig .tc := ⟨.hbm, 85, rfl⟩
abbrev main_v57 : Ref sig .tc := ⟨.hbm, 86, rfl⟩
abbrev main_v58 : Ref sig .tc := ⟨.hbm, 87, rfl⟩
abbrev main_cst_17 : Ref sig .tc := ⟨.hbm, 88, rfl⟩
abbrev main_v59 : Ref sig .tc := ⟨.hbm, 89, rfl⟩
abbrev main_v60 : Ref sig .tc := ⟨.hbm, 90, rfl⟩
abbrev main_cst_18 : Ref sig .tc := ⟨.hbm, 91, rfl⟩
abbrev main_v61 : Ref sig .tc := ⟨.hbm, 92, rfl⟩
abbrev main_v62 : Ref sig .tc := ⟨.hbm, 93, rfl⟩
abbrev main_cst_19 : Ref sig .tc := ⟨.hbm, 94, rfl⟩
abbrev main_v63 : Ref sig .tc := ⟨.hbm, 95, rfl⟩
abbrev main_v64 : Ref sig .tc := ⟨.hbm, 96, rfl⟩
abbrev main_cst_20 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_21 : Ref sig .tc := ⟨.hbm, 111, rfl⟩
abbrev main_v78 : Ref sig .tc := ⟨.hbm, 112, rfl⟩
abbrev main_v79 : Ref sig .tc := ⟨.hbm, 113, rfl⟩
abbrev main_cst_22 : Ref sig .tc := ⟨.hbm, 114, rfl⟩
abbrev main_v80 : Ref sig .tc := ⟨.hbm, 115, rfl⟩
abbrev main_v81 : Ref sig .tc := ⟨.hbm, 116, rfl⟩
abbrev main_cst_23 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_24 : Ref sig .tc := ⟨.hbm, 121, rfl⟩
abbrev main_v85 : Ref sig .tc := ⟨.hbm, 122, rfl⟩
abbrev main_v86 : Ref sig .tc := ⟨.hbm, 123, rfl⟩
abbrev main_cst_25 : Ref sig .tc := ⟨.hbm, 124, rfl⟩
abbrev main_v87 : Ref sig .tc := ⟨.hbm, 125, rfl⟩
abbrev main_v88 : Ref sig .tc := ⟨.hbm, 126, rfl⟩
abbrev main_c : Ref sig .tc := ⟨.hbm, 127, rfl⟩
abbrev main_call1_v0 : Ref sig .tc := ⟨.hbm, 128, rfl⟩
abbrev main_call1_v1 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_26 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_v92 : Ref sig .tc := ⟨.hbm, 137, rfl⟩
abbrev main_cst_27 : Ref sig .tc := ⟨.hbm, 138, rfl⟩
abbrev main_v93 : Ref sig .tc := ⟨.hbm, 139, rfl⟩
abbrev main_v94 : Ref sig .tc := ⟨.hbm, 140, rfl⟩
abbrev main_cst_28 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_c_29 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_30 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_cst_31 : Ref sig .tc := ⟨.hbm, 163, rfl⟩
abbrev main_v111 : Ref sig .tc := ⟨.hbm, 164, rfl⟩
abbrev main_cst_32 : Ref sig .tc := ⟨.hbm, 165, rfl⟩
abbrev main_v112 : Ref sig .tc := ⟨.hbm, 166, rfl⟩
abbrev main_v113 : Ref sig .tc := ⟨.hbm, 167, rfl⟩
abbrev main_cst_33 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_cst_34 : Ref sig .tc := ⟨.hbm, 172, rfl⟩
abbrev main_v117 : Ref sig .tc := ⟨.hbm, 173, rfl⟩
abbrev main_v118 : Ref sig .tc := ⟨.hbm, 174, rfl⟩
abbrev main_cst_35 : Ref sig .tc := ⟨.hbm, 175, rfl⟩
abbrev main_v119 : Ref sig .tc := ⟨.hbm, 176, rfl⟩
abbrev main_v120 : Ref sig .tc := ⟨.hbm, 177, rfl⟩
abbrev main_cst_36 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_37 : Ref sig .tc := ⟨.hbm, 182, rfl⟩
abbrev main_v124 : Ref sig .tc := ⟨.hbm, 183, rfl⟩
abbrev main_v125 : Ref sig .tc := ⟨.hbm, 184, rfl⟩
abbrev main_cst_38 : Ref sig .tc := ⟨.hbm, 185, rfl⟩
abbrev main_v126 : Ref sig .tc := ⟨.hbm, 186, rfl⟩
abbrev main_v127 : Ref sig .tc := ⟨.hbm, 187, rfl⟩
abbrev main_cst_39 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_cst_40 : Ref sig .tc := ⟨.hbm, 201, rfl⟩
abbrev main_cst_41 : Ref sig .tc := ⟨.hbm, 202, rfl⟩
abbrev main_v140 : Ref sig .tc := ⟨.hbm, 203, rfl⟩
abbrev main_v141 : Ref sig .tc := ⟨.hbm, 204, rfl⟩
abbrev main_cst_42 : Ref sig .tc := ⟨.hbm, 205, rfl⟩
abbrev main_v142 : Ref sig .tc := ⟨.hbm, 206, rfl⟩
abbrev main_v143 : Ref sig .tc := ⟨.hbm, 207, rfl⟩
abbrev main_cst_43 : Ref sig .tc := ⟨.hbm, 208, rfl⟩
abbrev main_v144 : Ref sig .tc := ⟨.hbm, 209, rfl⟩
abbrev main_v145 : Ref sig .tc := ⟨.hbm, 210, rfl⟩
abbrev main_cst_44 : Ref sig .tc := ⟨.hbm, 211, rfl⟩
abbrev main_v146 : Ref sig .tc := ⟨.hbm, 212, rfl⟩
abbrev main_v147 : Ref sig .tc := ⟨.hbm, 213, rfl⟩
abbrev main_cst_45 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_cst_46 : Ref sig .tc := ⟨.hbm, 228, rfl⟩
abbrev main_v161 : Ref sig .tc := ⟨.hbm, 229, rfl⟩
abbrev main_v162 : Ref sig .tc := ⟨.hbm, 230, rfl⟩
abbrev main_cst_47 : Ref sig .tc := ⟨.hbm, 231, rfl⟩
abbrev main_v163 : Ref sig .tc := ⟨.hbm, 232, rfl⟩
abbrev main_v164 : Ref sig .tc := ⟨.hbm, 233, rfl⟩
abbrev main_cst_48 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_cst_49 : Ref sig .tc := ⟨.hbm, 238, rfl⟩
abbrev main_v168 : Ref sig .tc := ⟨.hbm, 239, rfl⟩
abbrev main_v169 : Ref sig .tc := ⟨.hbm, 240, rfl⟩
abbrev main_cst_50 : Ref sig .tc := ⟨.hbm, 241, rfl⟩
abbrev main_v170 : Ref sig .tc := ⟨.hbm, 242, rfl⟩
abbrev main_v171 : Ref sig .tc := ⟨.hbm, 243, rfl⟩
abbrev main_c_51 : Ref sig .tc := ⟨.hbm, 244, rfl⟩
abbrev main_call4_v0 : Ref sig .tc := ⟨.hbm, 245, rfl⟩
abbrev main_call4_v1 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_c_52 : Ref sig .tc := ⟨.hbm, 250, rfl⟩
abbrev main_call5_v0 : Ref sig .tc := ⟨.hbm, 251, rfl⟩
abbrev main_call5_v1 : Ref sig .tc := ⟨.hbm, 252, rfl⟩
abbrev main_call5_v2 : Ref sig .tc := ⟨.hbm, 253, rfl⟩
abbrev main_v175 : Ref sig .tc := ⟨.hbm, 254, rfl⟩
abbrev main_cst_53 : Ref sig .tc := ⟨.hbm, 255, rfl⟩
abbrev main_v176 : Ref sig .tc := ⟨.hbm, 256, rfl⟩
abbrev main_v177 : Ref sig .tc := ⟨.hbm, 257, rfl⟩
abbrev main_cst_54 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_c_55 : Ref sig .tc := ⟨.hbm, 263, rfl⟩
abbrev main_call6_v0 : Ref sig .tc := ⟨.hbm, 264, rfl⟩
abbrev main_call6_v1 : Ref sig .tc := ⟨.hbm, 265, rfl⟩
abbrev main_call6_v2 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_cst_56 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_cst_57 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x256x64x64 : Shape := ⟨4, ![2, 256, 64, 64]⟩
abbrev S2x512x32x32 : Shape := ⟨4, ![2, 512, 32, 32]⟩
abbrev S2x1024x16x16 : Shape := ⟨4, ![2, 1024, 16, 16]⟩
abbrev S_ : Shape := ⟨0, ![]⟩
abbrev S2x1x64x64 : Shape := ⟨4, ![2, 1, 64, 64]⟩
abbrev S256x258 : Shape := ⟨2, ![256, 258]⟩
abbrev S256 : Shape := ⟨1, ![256]⟩
abbrev S512x514 : Shape := ⟨2, ![512, 514]⟩
abbrev S512 : Shape := ⟨1, ![512]⟩
abbrev S1024x1026 : Shape := ⟨2, ![1024, 1026]⟩
abbrev S1024 : Shape := ⟨1, ![1024]⟩
abbrev S1792x4096 : Shape := ⟨2, ![1792, 4096]⟩
abbrev S64 : Shape := ⟨1, ![64]⟩
abbrev S1x1x1x64 : Shape := ⟨4, ![1, 1, 1, 64]⟩
abbrev S1x1x64x1 : Shape := ⟨4, ![1, 1, 64, 1]⟩
abbrev S2x258x64x64 : Shape := ⟨4, ![2, 258, 64, 64]⟩
abbrev S256x2x64x64 : Shape := ⟨4, ![256, 2, 64, 64]⟩
abbrev S1x256x1x1 : Shape := ⟨4, ![1, 256, 1, 1]⟩
abbrev S32 : Shape := ⟨1, ![32]⟩
abbrev S1x1x1x32 : Shape := ⟨4, ![1, 1, 1, 32]⟩
abbrev S2x1x32x32 : Shape := ⟨4, ![2, 1, 32, 32]⟩
abbrev S1x1x32x1 : Shape := ⟨4, ![1, 1, 32, 1]⟩
abbrev S2x514x32x32 : Shape := ⟨4, ![2, 514, 32, 32]⟩
abbrev S512x2x32x32 : Shape := ⟨4, ![512, 2, 32, 32]⟩
abbrev S1x512x1x1 : Shape := ⟨4, ![1, 512, 1, 1]⟩
abbrev S1x64 : Shape := ⟨2, ![1, 64]⟩
abbrev S32x1 : Shape := ⟨2, ![32, 1]⟩
abbrev S32x64 : Shape := ⟨2, ![32, 64]⟩
abbrev S64x2x512x32 : Shape := ⟨4, ![64, 2, 512, 32]⟩
abbrev S64x2x512x64 : Shape := ⟨4, ![64, 2, 512, 64]⟩
abbrev S2x512x64x64 : Shape := ⟨4, ![2, 512, 64, 64]⟩
abbrev S16 : Shape := ⟨1, ![16]⟩
abbrev S1x1x1x16 : Shape := ⟨4, ![1, 1, 1, 16]⟩
abbrev S2x1x16x16 : Shape := ⟨4, ![2, 1, 16, 16]⟩
abbrev S1x1x16x1 : Shape := ⟨4, ![1, 1, 16, 1]⟩
abbrev S2x1026x16x16 : Shape := ⟨4, ![2, 1026, 16, 16]⟩
abbrev S1024x2x16x16 : Shape := ⟨4, ![1024, 2, 16, 16]⟩
abbrev S1x1024x1x1 : Shape := ⟨4, ![1, 1024, 1, 1]⟩
abbrev S16x1 : Shape := ⟨2, ![16, 1]⟩
abbrev S16x64 : Shape := ⟨2, ![16, 64]⟩
abbrev S64x2x1024x16 : Shape := ⟨4, ![64, 2, 1024, 16]⟩
abbrev S64x2x1024x64 : Shape := ⟨4, ![64, 2, 1024, 64]⟩
abbrev S2x1024x64x64 : Shape := ⟨4, ![2, 1024, 64, 64]⟩
abbrev S2x1792x64x64 : Shape := ⟨4, ![2, 1792, 64, 64]⟩
abbrev S2x1792x4096 : Shape := ⟨3, ![2, 1792, 4096]⟩
abbrev S2x4096x1792 : Shape := ⟨3, ![2, 4096, 1792]⟩
abbrev S2x4096 : Shape := ⟨2, ![2, 4096]⟩
abbrev S2x4096x1 : Shape := ⟨3, ![2, 4096, 1]⟩
abbrev S4096 : Shape := ⟨1, ![4096]⟩
abbrev S1x4096 : Shape := ⟨2, ![1, 4096]⟩
abbrev S2x4096x4096 : Shape := ⟨3, ![2, 4096, 4096]⟩
abbrev S1x1x4096 : Shape := ⟨3, ![1, 1, 4096]⟩
abbrev S2x4096x200 : Shape := ⟨3, ![2, 4096, 200]⟩
abbrev S2x64x64x200 : Shape := ⟨4, ![2, 64, 64, 200]⟩
abbrev S2x200x64x64 : Shape := ⟨4, ![2, 200, 64, 64]⟩
abbrev S2x896x64x64 : Shape := ⟨4, ![2, 896, 64, 64]⟩

abbrev nBuf : Space → Nat
  | .hbm => 422
  | .vmem => 0
  | .smem => 0
  | _ => 0

abbrev hbmTy0_0 (i : Nat) : BufTy := match i % 128 with
  | 0 => ⟨S2x256x64x64, .f32⟩
  | 1 => ⟨S2x512x32x32, .f32⟩
  | 2 => ⟨S2x1024x16x16, .f32⟩
  | 3 => ⟨S_, .i32⟩
  | 4 => ⟨S2x1x64x64, .f32⟩
  | 5 => ⟨S256x258, .f32⟩
  | 6 => ⟨S256, .f32⟩
  | 7 => ⟨S512x514, .f32⟩
  | 8 => ⟨S512, .f32⟩
  | 9 => ⟨S1024x1026, .f32⟩
  | 10 => ⟨S1024, .f32⟩
  | 11 => ⟨S1792x4096, .f32⟩
  | 12 => ⟨S_, .f32⟩
  | 13 => ⟨S_, .f32⟩
  | 14 => ⟨S2x256x64x64, .f32⟩
  | 15 => ⟨S_, .f32⟩
  | 16 => ⟨S2x256x64x64, .f32⟩
  | 17 => ⟨S2x256x64x64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S_, .f32⟩
  | 36 => ⟨S64, .f32⟩
  | 37 => ⟨S64, .f32⟩
  | 38 => ⟨S1x1x1x64, .f32⟩
  | 39 => ⟨S2x1x64x64, .f32⟩
  | 40 => ⟨S1x1x64x1, .f32⟩
  | 41 => ⟨S2x1x64x64, .f32⟩
  | 42 => ⟨S2x258x64x64, .f32⟩
  | 43 => ⟨S256x2x64x64, .f32⟩
  | 44 => ⟨S2x256x64x64, .f32⟩
  | 45 => ⟨S1x256x1x1, .f32⟩
  | 46 => ⟨S2x256x64x64, .f32⟩
  | 47 => ⟨S2x256x64x64, .f32⟩
  | 48 => ⟨S_, .f32⟩
  | 49 => ⟨S_, .f32⟩
  | 50 => ⟨S2x512x32x32, .f32⟩
  | 51 => ⟨S_, .f32⟩
  | 52 => ⟨S2x512x32x32, .f32⟩
  | 53 => ⟨S2x512x32x32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S1x1x1x32, .f32⟩
  | 75 => ⟨S2x1x32x32, .f32⟩
  | 76 => ⟨S1x1x32x1, .f32⟩
  | 77 => ⟨S2x1x32x32, .f32⟩
  | 78 => ⟨S2x514x32x32, .f32⟩
  | 79 => ⟨S512x2x32x32, .f32⟩
  | 80 => ⟨S2x512x32x32, .f32⟩
  | 81 => ⟨S1x512x1x1, .f32⟩
  | 82 => ⟨S2x512x32x32, .f32⟩
  | 83 => ⟨S2x512x32x32, .f32⟩
  | 84 => ⟨S_, .f32⟩
  | 85 => ⟨S_, .f32⟩
  | 86 => ⟨S_, .f32⟩
  | 87 => ⟨S64, .f32⟩
  | 88 => ⟨S_, .f32⟩
  | 89 => ⟨S64, .f32⟩
  | 90 => ⟨S64, .f32⟩
  | 91 => ⟨S_, .f32⟩
  | 92 => ⟨S64, .f32⟩
  | 93 => ⟨S64, .f32⟩
  | 94 => ⟨S_, .f32⟩
  | 95 => ⟨S64, .f32⟩
  | 96 => ⟨S64, .f32⟩
  | 97 => ⟨S_, .f32⟩
  | 98 => ⟨S64, .f32⟩
  | 99 => ⟨S64, .f32⟩
  | 100 => ⟨S32, .f32⟩
  | 101 => ⟨S1x64, .f32⟩
  | 102 => ⟨S32x1, .f32⟩
  | 103 => ⟨S32x64, .f32⟩
  | 104 => ⟨S32x64, .f32⟩
  | 105 => ⟨S32x64, .f32⟩
  | 106 => ⟨S32x64, .f32⟩
  | 107 => ⟨S_, .f32⟩
  | 108 => ⟨S32x64, .f32⟩
  | 109 => ⟨S32x64, .f32⟩
  | 110 => ⟨S32x64, .f32⟩
  | 111 => ⟨S_, .f32⟩
  | 112 => ⟨S32x64, .f32⟩
  | 113 => ⟨S32x64, .f32⟩
  | 114 => ⟨S_, .f32⟩
  | 115 => ⟨S32x64, .f32⟩
  | 116 => ⟨S32x64, .f32⟩
  | 117 => ⟨S_, .f32⟩
  | 118 => ⟨S64, .f32⟩
  | 119 => ⟨S1x64, .f32⟩
  | 120 => ⟨S1x64, .f32⟩
  | 121 => ⟨S_, .f32⟩
  | 122 => ⟨S1x64, .f32⟩
  | 123 => ⟨S1x64, .i1⟩
  | 124 => ⟨S_, .f32⟩
  | 125 => ⟨S1x64, .f32⟩
  | 126 => ⟨S1x64, .i1⟩
  | 127 => ⟨S_, .i32⟩
  | _ => ⟨S2x256x64x64, .f32⟩

abbrev hbmTy0_1 (i : Nat) : BufTy := match i % 128 with
  | 0 => ⟨S_, .f32⟩
  | 1 => ⟨S1x64, .f32⟩
  | 2 => ⟨S1x64, .f32⟩
  | 3 => ⟨S32x64, .f32⟩
  | 4 => ⟨S32x64, .f32⟩
  | 5 => ⟨S_, .i32⟩
  | 6 => ⟨S_, .f32⟩
  | 7 => ⟨S32x64, .i1⟩
  | 8 => ⟨S32x64, .f32⟩
  | 9 => ⟨S32x64, .f32⟩
  | 10 => ⟨S_, .f32⟩
  | 11 => ⟨S64, .f32⟩
  | 12 => ⟨S64, .i1⟩
  | 13 => ⟨S_, .f32⟩
  | 14 => ⟨S64, .f32⟩
  | 15 => ⟨S64, .i1⟩
  | 16 => ⟨S64, .i1⟩
  | 17 => ⟨S1x64, .i1⟩
  | 18 => ⟨S_, .i32⟩
  | 19 => ⟨S_, .f32⟩
  | 20 => ⟨S32x64, .i1⟩
  | 21 => ⟨S32x64, .f32⟩
  | 22 => ⟨S32x64, .f32⟩
  | 23 => ⟨S_, .f32⟩
  | 24 => ⟨S_, .f32⟩
  | 25 => ⟨S_, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S32, .f32⟩
  | 40 => ⟨S1x64, .f32⟩
  | 41 => ⟨S32x1, .f32⟩
  | 42 => ⟨S32x64, .f32⟩
  | 43 => ⟨S32x64, .f32⟩
  | 44 => ⟨S32x64, .f32⟩
  | 45 => ⟨S32x64, .f32⟩
  | 46 => ⟨S_, .f32⟩
  | 47 => ⟨S32x64, .f32⟩
  | 48 => ⟨S32x64, .f32⟩
  | 49 => ⟨S32x64, .f32⟩
  | 50 => ⟨S_, .f32⟩
  | 51 => ⟨S32x64, .f32⟩
  | 52 => ⟨S32x64, .f32⟩
  | 53 => ⟨S_, .f32⟩
  | 54 => ⟨S32x64, .f32⟩
  | 55 => ⟨S32x64, .f32⟩
  | 56 => ⟨S_, .f32⟩
  | 57 => ⟨S64, .f32⟩
  | 58 => ⟨S1x64, .f32⟩
  | 59 => ⟨S1x64, .f32⟩
  | 60 => ⟨S_, .f32⟩
  | 61 => ⟨S1x64, .f32⟩
  | 62 => ⟨S1x64, .i1⟩
  | 63 => ⟨S_, .f32⟩
  | 64 => ⟨S1x64, .f32⟩
  | 65 => ⟨S1x64, .i1⟩
  | 66 => ⟨S_, .i32⟩
  | 67 => ⟨S_, .f32⟩
  | 68 => ⟨S1x64, .f32⟩
  | 69 => ⟨S1x64, .f32⟩
  | 70 => ⟨S32x64, .f32⟩
  | 71 => ⟨S32x64, .f32⟩
  | 72 => ⟨S_, .i32⟩
  | 73 => ⟨S_, .f32⟩
  | 74 => ⟨S32x64, .i1⟩
  | 75 => ⟨S32x64, .f32⟩
  | 76 => ⟨S32x64, .f32⟩
  | 77 => ⟨S_, .f32⟩
  | 78 => ⟨S64, .f32⟩
  | 79 => ⟨S64, .i1⟩
  | 80 => ⟨S_, .f32⟩
  | 81 => ⟨S64, .f32⟩
  | 82 => ⟨S64, .i1⟩
  | 83 => ⟨S64, .i1⟩
  | 84 => ⟨S1x64, .i1⟩
  | 85 => ⟨S_, .i32⟩
  | 86 => ⟨S_, .f32⟩
  | 87 => ⟨S32x64, .i1⟩
  | 88 => ⟨S32x64, .f32⟩
  | 89 => ⟨S32x64, .f32⟩
  | 90 => ⟨S64x2x512x32, .f32⟩
  | 91 => ⟨S64x2x512x64, .f32⟩
  | 92 => ⟨S2x512x64x64, .f32⟩
  | 93 => ⟨S_, .f32⟩
  | 94 => ⟨S_, .f32⟩
  | 95 => ⟨S2x1024x16x16, .f32⟩
  | 96 => ⟨S_, .f32⟩
  | 97 => ⟨S2x1024x16x16, .f32⟩
  | 98 => ⟨S2x1024x16x16, .f32⟩
  | 99 => ⟨S16, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S_, .f32⟩
  | 107 => ⟨S16, .f32⟩
  | 108 => ⟨S16, .f32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S1x1x1x16, .f32⟩
  | 120 => ⟨S2x1x16x16, .f32⟩
  | 121 => ⟨S1x1x16x1, .f32⟩
  | 122 => ⟨S2x1x16x16, .f32⟩
  | 123 => ⟨S2x1026x16x16, .f32⟩
  | 124 => ⟨S1024x2x16x16, .f32⟩
  | 125 => ⟨S2x1024x16x16, .f32⟩
  | 126 => ⟨S1x1024x1x1, .f32⟩
  | 127 => ⟨S2x1024x16x16, .f32⟩
  | _ => ⟨S2x256x64x64, .f32⟩

abbrev hbmTy0_2 (i : Nat) : BufTy := match i % 128 with
  | 0 => ⟨S2x1024x16x16, .f32⟩
  | 1 => ⟨S_, .f32⟩
  | 2 => ⟨S_, .f32⟩
  | 3 => ⟨S_, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S16, .f32⟩
  | 18 => ⟨S1x64, .f32⟩
  | 19 => ⟨S16x1, .f32⟩
  | 20 => ⟨S16x64, .f32⟩
  | 21 => ⟨S16x64, .f32⟩
  | 22 => ⟨S16x64, .f32⟩
  | 23 => ⟨S16x64, .f32⟩
  | 24 => ⟨S_, .f32⟩
  | 25 => ⟨S16x64, .f32⟩
  | 26 => ⟨S16x64, .f32⟩
  | 27 => ⟨S16x64, .f32⟩
  | 28 => ⟨S_, .f32⟩
  | 29 => ⟨S16x64, .f32⟩
  | 30 => ⟨S16x64, .f32⟩
  | 31 => ⟨S_, .f32⟩
  | 32 => ⟨S16x64, .f32⟩
  | 33 => ⟨S16x64, .f32⟩
  | 34 => ⟨S_, .f32⟩
  | 35 => ⟨S64, .f32⟩
  | 36 => ⟨S1x64, .f32⟩
  | 37 => ⟨S1x64, .f32⟩
  | 38 => ⟨S_, .f32⟩
  | 39 => ⟨S1x64, .f32⟩
  | 40 => ⟨S1x64, .i1⟩
  | 41 => ⟨S_, .f32⟩
  | 42 => ⟨S1x64, .f32⟩
  | 43 => ⟨S1x64, .i1⟩
  | 44 => ⟨S_, .i32⟩
  | 45 => ⟨S_, .f32⟩
  | 46 => ⟨S1x64, .f32⟩
  | 47 => ⟨S1x64, .f32⟩
  | 48 => ⟨S16x64, .f32⟩
  | 49 => ⟨S16x64, .f32⟩
  | 50 => ⟨S_, .i32⟩
  | 51 => ⟨S_, .f32⟩
  | 52 => ⟨S16x64, .i1⟩
  | 53 => ⟨S16x64, .f32⟩
  | 54 => ⟨S16x64, .f32⟩
  | 55 => ⟨S_, .f32⟩
  | 56 => ⟨S64, .f32⟩
  | 57 => ⟨S64, .i1⟩
  | 58 => ⟨S_, .f32⟩
  | 59 => ⟨S64, .f32⟩
  | 60 => ⟨S64, .i1⟩
  | 61 => ⟨S64, .i1⟩
  | 62 => ⟨S1x64, .i1⟩
  | 63 => ⟨S_, .i32⟩
  | 64 => ⟨S_, .f32⟩
  | 65 => ⟨S16x64, .i1⟩
  | 66 => ⟨S16x64, .f32⟩
  | 67 => ⟨S16x64, .f32⟩
  | 68 => ⟨S_, .f32⟩
  | 69 => ⟨S_, .f32⟩
  | 70 => ⟨S_, .f32⟩
  | 71 => ⟨S64, .f32⟩
  | 72 => ⟨S_, .f32⟩
  | 73 => ⟨S64, .f32⟩
  | 74 => ⟨S64, .f32⟩
  | 75 => ⟨S_, .f32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S16, .f32⟩
  | 85 => ⟨S1x64, .f32⟩
  | 86 => ⟨S16x1, .f32⟩
  | 87 => ⟨S16x64, .f32⟩
  | 88 => ⟨S16x64, .f32⟩
  | 89 => ⟨S16x64, .f32⟩
  | 90 => ⟨S16x64, .f32⟩
  | 91 => ⟨S_, .f32⟩
  | 92 => ⟨S16x64, .f32⟩
  | 93 => ⟨S16x64, .f32⟩
  | 94 => ⟨S16x64, .f32⟩
  | 95 => ⟨S_, .f32⟩
  | 96 => ⟨S16x64, .f32⟩
  | 97 => ⟨S16x64, .f32⟩
  | 98 => ⟨S_, .f32⟩
  | 99 => ⟨S16x64, .f32⟩
  | 100 => ⟨S16x64, .f32⟩
  | 101 => ⟨S_, .f32⟩
  | 102 => ⟨S64, .f32⟩
  | 103 => ⟨S1x64, .f32⟩
  | 104 => ⟨S1x64, .f32⟩
  | 105 => ⟨S_, .f32⟩
  | 106 => ⟨S1x64, .f32⟩
  | 107 => ⟨S1x64, .i1⟩
  | 108 => ⟨S_, .f32⟩
  | 109 => ⟨S1x64, .f32⟩
  | 110 => ⟨S1x64, .i1⟩
  | 111 => ⟨S_, .i32⟩
  | 112 => ⟨S_, .f32⟩
  | 113 => ⟨S1x64, .f32⟩
  | 114 => ⟨S1x64, .f32⟩
  | 115 => ⟨S16x64, .f32⟩
  | 116 => ⟨S16x64, .f32⟩
  | 117 => ⟨S_, .i32⟩
  | 118 => ⟨S_, .f32⟩
  | 119 => ⟨S16x64, .i1⟩
  | 120 => ⟨S16x64, .f32⟩
  | 121 => ⟨S16x64, .f32⟩
  | 122 => ⟨S_, .f32⟩
  | 123 => ⟨S64, .f32⟩
  | 124 => ⟨S64, .i1⟩
  | 125 => ⟨S_, .f32⟩
  | 126 => ⟨S64, .f32⟩
  | 127 => ⟨S64, .i1⟩
  | _ => ⟨S2x256x64x64, .f32⟩

abbrev hbmTy0_3 (i : Nat) : BufTy := match i % 128 with
  | 0 => ⟨S64, .i1⟩
  | 1 => ⟨S1x64, .i1⟩
  | 2 => ⟨S_, .i32⟩
  | 3 => ⟨S_, .f32⟩
  | 4 => ⟨S16x64, .i1⟩
  | 5 => ⟨S16x64, .f32⟩
  | 6 => ⟨S16x64, .f32⟩
  | 7 => ⟨S64x2x1024x16, .f32⟩
  | 8 => ⟨S64x2x1024x64, .f32⟩
  | 9 => ⟨S2x1024x64x64, .f32⟩
  | 10 => ⟨S2x1792x64x64, .f32⟩
  | 11 => ⟨S2x1792x4096, .f32⟩
  | 12 => ⟨S2x4096x1792, .f32⟩
  | 13 => ⟨S2x4096x1792, .f32⟩
  | 14 => ⟨S_, .f32⟩
  | 15 => ⟨S2x4096, .f32⟩
  | 16 => ⟨S2x4096x1, .f32⟩
  | 17 => ⟨S1792x4096, .f32⟩
  | 18 => ⟨S_, .f32⟩
  | 19 => ⟨S4096, .f32⟩
  | 20 => ⟨S1x4096, .f32⟩
  | 21 => ⟨S2x4096x4096, .f32⟩
  | 22 => ⟨S_, .f32⟩
  | 23 => ⟨S2x4096x4096, .f32⟩
  | 24 => ⟨S2x4096x4096, .f32⟩
  | 25 => ⟨S1x1x4096, .f32⟩
  | 26 => ⟨S2x4096x4096, .f32⟩
  | 27 => ⟨S2x4096x4096, .f32⟩
  | 28 => ⟨S2x4096x4096, .f32⟩
  | 29 => ⟨S2x4096x4096, .f32⟩
  | 30 => ⟨S2x4096x4096, .f32⟩
  | 31 => ⟨S2x4096x4096, .f32⟩
  | 32 => ⟨S2x4096x200, .f32⟩
  | 33 => ⟨S2x4096x200, .i32⟩
  | 34 => ⟨S2x4096x200, .f32⟩
  | 35 => ⟨S2x64x64x200, .f32⟩
  | 36 => ⟨S2x200x64x64, .f32⟩
  | 37 => ⟨S2x896x64x64, .f32⟩
  | _ => ⟨S2x256x64x64, .f32⟩

abbrev hbmTy (i : Nat) : BufTy := match i / 128 with
  | 0 => hbmTy0_0 i
  | 1 => hbmTy0_1 i
  | 2 => hbmTy0_2 i
  | 3 => hbmTy0_3 i
  | _ => ⟨S2x256x64x64, .f32⟩

abbrev bufTy : (tb : Table) → Fin (tcTables nBuf tb) → BufTy
  | .hbm, ⟨i, _⟩ => hbmTy i
  | _, _ => ⟨S2x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_cst_6 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_v36 : Ref sig .tc := ⟨.hbm, 60, rfl⟩
abbrev main_cst_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_12 : Ref sig .tc := ⟨.hbm, 65, rfl⟩
abbrev main_v40 : Ref sig .tc := ⟨.hbm, 66, rfl⟩
abbrev main_v41 : Ref sig .tc := ⟨.hbm, 67, rfl⟩
abbrev main_cst_13 : Ref sig .tc := ⟨.hbm, 68, rfl⟩
abbrev main_v42 : Ref sig .tc := ⟨.hbm, 69, rfl⟩
abbrev main_v43 : Ref sig .tc := ⟨.hbm, 70, rfl⟩
abbrev main_cst_14 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_cst_16 : Ref sig .tc := ⟨.hbm, 85, rfl⟩
abbrev main_v56 : Ref sig .tc := ⟨.hbm, 86, rfl⟩
abbrev main_v57 : Ref sig .tc := ⟨.hbm, 87, rfl⟩
abbrev main_cst_17 : Ref sig .tc := ⟨.hbm, 88, rfl⟩
abbrev main_v58 : Ref sig .tc := ⟨.hbm, 89, rfl⟩
abbrev main_v59 : Ref sig .tc := ⟨.hbm, 90, rfl⟩
abbrev main_cst_18 : Ref sig .tc := ⟨.hbm, 91, rfl⟩
abbrev main_v60 : Ref sig .tc := ⟨.hbm, 92, rfl⟩
abbrev main_v61 : Ref sig .tc := ⟨.hbm, 93, rfl⟩
abbrev main_cst_19 : Ref sig .tc := ⟨.hbm, 94, rfl⟩
abbrev main_v62 : Ref sig .tc := ⟨.hbm, 95, rfl⟩
abbrev main_v63 : Ref sig .tc := ⟨.hbm, 96, rfl⟩
abbrev main_cst_20 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_21 : Ref sig .tc := ⟨.hbm, 111, rfl⟩
abbrev main_v77 : Ref sig .tc := ⟨.hbm, 112, rfl⟩
abbrev main_v78 : Ref sig .tc := ⟨.hbm, 113, rfl⟩
abbrev main_cst_22 : Ref sig .tc := ⟨.hbm, 114, rfl⟩
abbrev main_v79 : Ref sig .tc := ⟨.hbm, 115, rfl⟩
abbrev main_v80 : Ref sig .tc := ⟨.hbm, 116, rfl⟩
abbrev main_cst_23 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_24 : Ref sig .tc := ⟨.hbm, 121, rfl⟩
abbrev main_v84 : Ref sig .tc := ⟨.hbm, 122, rfl⟩
abbrev main_v85 : Ref sig .tc := ⟨.hbm, 123, rfl⟩
abbrev main_cst_25 : Ref sig .tc := ⟨.hbm, 124, rfl⟩
abbrev main_v86 : Ref sig .tc := ⟨.hbm, 125, rfl⟩
abbrev main_v87 : Ref sig .tc := ⟨.hbm, 126, rfl⟩
abbrev main_c : Ref sig .tc := ⟨.hbm, 127, rfl⟩
abbrev main_call0_v0 : Ref sig .tc := ⟨.hbm, 128, rfl⟩
abbrev main_call0_v1 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_c_26 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_v91 : Ref sig .tc := ⟨.hbm, 137, rfl⟩
abbrev main_cst_27 : Ref sig .tc := ⟨.hbm, 138, rfl⟩
abbrev main_v92 : Ref sig .tc := ⟨.hbm, 139, rfl⟩
abbrev main_v93 : Ref sig .tc := ⟨.hbm, 140, rfl⟩
abbrev main_cst_28 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_c_29 : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_v98 : Ref sig .tc := ⟨.hbm, 150, rfl⟩
abbrev main_cst_30 : Ref sig .tc := ⟨.hbm, 151, rfl⟩
abbrev main_cst_31 : Ref sig .tc := ⟨.hbm, 152, rfl⟩
abbrev main_v99 : Ref sig .tc := ⟨.hbm, 153, rfl⟩
abbrev main_v100 : Ref sig .tc := ⟨.hbm, 154, rfl⟩
abbrev main_cst_32 : Ref sig .tc := ⟨.hbm, 155, rfl⟩
abbrev main_v101 : Ref sig .tc := ⟨.hbm, 156, rfl⟩
abbrev main_v102 : Ref sig .tc := ⟨.hbm, 157, rfl⟩
abbrev main_cst_33 : Ref sig .tc := ⟨.hbm, 158, rfl⟩
abbrev main_v103 : Ref sig .tc := ⟨.hbm, 159, rfl⟩
abbrev main_v104 : Ref sig .tc := ⟨.hbm, 160, rfl⟩
abbrev main_cst_34 : Ref sig .tc := ⟨.hbm, 161, rfl⟩
abbrev main_v105 : Ref sig .tc := ⟨.hbm, 162, rfl⟩
abbrev main_v106 : Ref sig .tc := ⟨.hbm, 163, rfl⟩
abbrev main_cst_35 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_cst_36 : Ref sig .tc := ⟨.hbm, 178, rfl⟩
abbrev main_v120 : Ref sig .tc := ⟨.hbm, 179, rfl⟩
abbrev main_v121 : Ref sig .tc := ⟨.hbm, 180, rfl⟩
abbrev main_cst_37 : Ref sig .tc := ⟨.hbm, 181, rfl⟩
abbrev main_v122 : Ref sig .tc := ⟨.hbm, 182, rfl⟩
abbrev main_v123 : Ref sig .tc := ⟨.hbm, 183, rfl⟩
abbrev main_cst_38 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_cst_39 : Ref sig .tc := ⟨.hbm, 188, rfl⟩
abbrev main_v127 : Ref sig .tc := ⟨.hbm, 189, rfl⟩
abbrev main_v128 : Ref sig .tc := ⟨.hbm, 190, rfl⟩
abbrev main_cst_40 : Ref sig .tc := ⟨.hbm, 191, rfl⟩
abbrev main_v129 : Ref sig .tc := ⟨.hbm, 192, rfl⟩
abbrev main_v130 : Ref sig .tc := ⟨.hbm, 193, rfl⟩
abbrev main_c_41 : Ref sig .tc := ⟨.hbm, 194, rfl⟩
abbrev main_call3_v0 : Ref sig .tc := ⟨.hbm, 195, rfl⟩
abbrev main_call3_v1 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_c_42 : Ref sig .tc := ⟨.hbm, 200, rfl⟩
abbrev main_call4_v0 : Ref sig .tc := ⟨.hbm, 201, rfl⟩
abbrev main_call4_v1 : Ref sig .tc := ⟨.hbm, 202, rfl⟩
abbrev main_call4_v2 : Ref sig .tc := ⟨.hbm, 203, rfl⟩
abbrev main_v134 : Ref sig .tc := ⟨.hbm, 204, rfl⟩
abbrev main_cst_43 : Ref sig .tc := ⟨.hbm, 205, rfl⟩
abbrev main_v135 : Ref sig .tc := ⟨.hbm, 206, rfl⟩
abbrev main_v136 : Ref sig .tc := ⟨.hbm, 207, rfl⟩
abbrev main_cst_44 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_c_45 : Ref sig .tc := ⟨.hbm, 213, rfl⟩
abbrev main_call5_v0 : Ref sig .tc := ⟨.hbm, 214, rfl⟩
abbrev main_call5_v1 : Ref sig .tc := ⟨.hbm, 215, rfl⟩
abbrev main_call5_v2 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_cst_46 : Ref sig .tc := ⟨.hbm, 221, rfl⟩
abbrev main_v145 : Ref sig .tc := ⟨.hbm, 222, rfl⟩
abbrev main_v146 : Ref sig .tc := ⟨.hbm, 223, rfl⟩
abbrev main_cst_47 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_cst_48 : Ref sig .tc := ⟨.hbm, 228, rfl⟩
abbrev main_v150 : Ref sig .tc := ⟨.hbm, 229, rfl⟩
abbrev main_v151 : Ref sig .tc := ⟨.hbm, 230, rfl⟩
abbrev main_cst_49 : Ref sig .tc := ⟨.hbm, 231, rfl⟩
abbrev main_v152 : Ref sig .tc := ⟨.hbm, 232, rfl⟩
abbrev main_v153 : Ref sig .tc := ⟨.hbm, 233, rfl⟩
abbrev main_cst_50 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_cst_51 : Ref sig .tc := ⟨.hbm, 238, rfl⟩
abbrev main_v157 : Ref sig .tc := ⟨.hbm, 239, rfl⟩
abbrev main_v158 : Ref sig .tc := ⟨.hbm, 240, rfl⟩
abbrev main_cst_52 : Ref sig .tc := ⟨.hbm, 241, rfl⟩
abbrev main_v159 : Ref sig .tc := ⟨.hbm, 242, rfl⟩
abbrev main_v160 : Ref sig .tc := ⟨.hbm, 243, rfl⟩
abbrev main_cst_53 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_cst_54 : Ref sig .tc := ⟨.hbm, 257, rfl⟩
abbrev main_cst_55 : Ref sig .tc := ⟨.hbm, 258, rfl⟩
abbrev main_v173 : Ref sig .tc := ⟨.hbm, 259, rfl⟩
abbrev main_v174 : Ref sig .tc := ⟨.hbm, 260, rfl⟩
abbrev main_cst_56 : Ref sig .tc := ⟨.hbm, 261, rfl⟩
abbrev main_v175 : Ref sig .tc := ⟨.hbm, 262, rfl⟩
abbrev main_v176 : Ref sig .tc := ⟨.hbm, 263, rfl⟩
abbrev main_cst_57 : Ref sig .tc := ⟨.hbm, 264, rfl⟩
abbrev main_v177 : Ref sig .tc := ⟨.hbm, 265, rfl⟩
abbrev main_v178 : Ref sig .tc := ⟨.hbm, 266, rfl⟩
abbrev main_cst_58 : Ref sig .tc := ⟨.hbm, 267, rfl⟩
abbrev main_v179 : Ref sig .tc := ⟨.hbm, 268, rfl⟩
abbrev main_v180 : Ref sig .tc := ⟨.hbm, 269, rfl⟩
abbrev main_cst_59 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_cst_60 : Ref sig .tc := ⟨.hbm, 284, rfl⟩
abbrev main_v194 : Ref sig .tc := ⟨.hbm, 285, rfl⟩
abbrev main_v195 : Ref sig .tc := ⟨.hbm, 286, rfl⟩
abbrev main_cst_61 : Ref sig .tc := ⟨.hbm, 287, rfl⟩
abbrev main_v196 : Ref sig .tc := ⟨.hbm, 288, rfl⟩
abbrev main_v197 : Ref sig .tc := ⟨.hbm, 289, rfl⟩
abbrev main_cst_62 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_cst_63 : Ref sig .tc := ⟨.hbm, 294, rfl⟩
abbrev main_v201 : Ref sig .tc := ⟨.hbm, 295, rfl⟩
abbrev main_v202 : Ref sig .tc := ⟨.hbm, 296, rfl⟩
abbrev main_cst_64 : Ref sig .tc := ⟨.hbm, 297, rfl⟩
abbrev main_v203 : Ref sig .tc := ⟨.hbm, 298, rfl⟩
abbrev main_v204 : Ref sig .tc := ⟨.hbm, 299, rfl⟩
abbrev main_c_65 : Ref sig .tc := ⟨.hbm, 300, rfl⟩
abbrev main_call6_v0 : Ref sig .tc := ⟨.hbm, 301, rfl⟩
abbrev main_call6_v1 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_c_66 : Ref sig .tc := ⟨.hbm, 306, rfl⟩
abbrev main_call7_v0 : Ref sig .tc := ⟨.hbm, 307, rfl⟩
abbrev main_call7_v1 : Ref sig .tc := ⟨.hbm, 308, rfl⟩
abbrev main_call7_v2 : Ref sig .tc := ⟨.hbm, 309, rfl⟩
abbrev main_v208 : Ref sig .tc := ⟨.hbm, 310, rfl⟩
abbrev main_cst_67 : Ref sig .tc := ⟨.hbm, 311, rfl⟩
abbrev main_v209 : Ref sig .tc := ⟨.hbm, 312, rfl⟩
abbrev main_v210 : Ref sig .tc := ⟨.hbm, 313, rfl⟩
abbrev main_cst_68 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_c_69 : Ref sig .tc := ⟨.hbm, 319, rfl⟩
abbrev main_call8_v0 : Ref sig .tc := ⟨.hbm, 320, rfl⟩
abbrev main_call8_v1 : Ref sig .tc := ⟨.hbm, 321, rfl⟩
abbrev main_call8_v2 : Ref sig .tc := ⟨.hbm, 322, rfl⟩
abbrev main_v215 : Ref sig .tc := ⟨.hbm, 323, rfl⟩
abbrev main_cst_70 : Ref sig .tc := ⟨.hbm, 324, rfl⟩
abbrev main_cst_71 : Ref sig .tc := ⟨.hbm, 325, rfl⟩
abbrev main_v216 : Ref sig .tc := ⟨.hbm, 326, rfl⟩
abbrev main_v217 : Ref sig .tc := ⟨.hbm, 327, rfl⟩
abbrev main_cst_72 : Ref sig .tc := ⟨.hbm, 328, rfl⟩
abbrev main_v218 : Ref sig .tc := ⟨.hbm, 329, rfl⟩
abbrev main_v219 : Ref sig .tc := ⟨.hbm, 330, rfl⟩
abbrev main_cst_73 : Ref sig .tc := ⟨.hbm, 331, rfl⟩
abbrev main_v220 : Ref sig .tc := ⟨.hbm, 332, rfl⟩
abbrev main_v221 : Ref sig .tc := ⟨.hbm, 333, rfl⟩
abbrev main_cst_74 : Ref sig .tc := ⟨.hbm, 334, rfl⟩
abbrev main_v222 : Ref sig .tc := ⟨.hbm, 335, rfl⟩
abbrev main_v223 : Ref sig .tc := ⟨.hbm, 336, rfl⟩
abbrev main_cst_75 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_v235 : Ref sig .tc := ⟨.hbm, 349, rfl⟩
abbrev main_v236 : Ref sig .tc := ⟨.hbm, 350, rfl⟩
abbrev main_cst_76 : Ref sig .tc := ⟨.hbm, 351, rfl⟩
abbrev main_v237 : Ref sig .tc := ⟨.hbm, 352, rfl⟩
abbrev main_v238 : Ref sig .tc := ⟨.hbm, 353, rfl⟩
abbrev main_cst_77 : Ref sig .tc := ⟨.hbm, 354, rfl⟩
abbrev main_v239 : Ref sig .tc := ⟨.hbm, 355, rfl⟩
abbrev main_v240 : Ref sig .tc := ⟨.hbm, 356, rfl⟩
abbrev main_cst_78 : Ref sig .tc := ⟨.hbm, 357, rfl⟩
abbrev main_v241 : Ref sig .tc := ⟨.hbm, 358, rfl⟩
abbrev main_v242 : Ref sig .tc := ⟨.hbm, 359, rfl⟩
abbrev main_v243 : Ref sig .tc := ⟨.hbm, 360, rfl⟩
abbrev main_cst_79 : Ref sig .tc := ⟨.hbm, 361, rfl⟩
abbrev main_v244 : Ref sig .tc := ⟨.hbm, 362, rfl⟩
abbrev main_v245 : Ref sig .tc := ⟨.hbm, 363, rfl⟩
abbrev main_cst_80 : Ref sig .tc := ⟨.hbm, 364, rfl⟩
abbrev main_v246 : Ref sig .tc := ⟨.hbm, 365, rfl⟩
abbrev main_v247 : Ref sig .tc := ⟨.hbm, 366, rfl⟩
abbrev main_c_81 : Ref sig .tc := ⟨.hbm, 367, rfl⟩
abbrev main_call9_v0 : Ref sig .tc := ⟨.hbm, 368, rfl⟩
abbrev main_call9_v1 : Ref sig .tc := ⟨.hbm, 369, rfl⟩
abbrev main_v248 : Ref sig .tc := ⟨.hbm, 370, rfl⟩
abbrev main_v249 : Ref sig .tc := ⟨.hbm, 371, rfl⟩
abbrev main_v250 : Ref sig .tc := ⟨.hbm, 372, rfl⟩
abbrev main_c_82 : Ref sig .tc := ⟨.hbm, 373, rfl⟩
abbrev main_call10_v0 : Ref sig .tc := ⟨.hbm, 374, rfl⟩
abbrev main_call10_v1 : Ref sig .tc := ⟨.hbm, 375, rfl⟩
abbrev main_call10_v2 : Ref sig .tc := ⟨.hbm, 376, rfl⟩
abbrev main_v251 : Ref sig .tc := ⟨.hbm, 377, rfl⟩
abbrev main_cst_83 : Ref sig .tc := ⟨.hbm, 378, rfl⟩
abbrev main_v252 : Ref sig .tc := ⟨.hbm, 379, rfl⟩
abbrev main_v253 : Ref sig .tc := ⟨.hbm, 380, rfl⟩
abbrev main_cst_84 : Ref sig .tc := ⟨.hbm, 381, rfl⟩
abbrev main_v254 : Ref sig .tc := ⟨.hbm, 382, rfl⟩
abbrev main_v255 : Ref sig .tc := ⟨.hbm, 383, rfl⟩
abbrev main_v256 : Ref sig .tc := ⟨.hbm, 384, rfl⟩
abbrev main_v257 : Ref sig .tc := ⟨.hbm, 385, rfl⟩
abbrev main_c_85 : Ref sig .tc := ⟨.hbm, 386, rfl⟩
abbrev main_call11_v0 : Ref sig .tc := ⟨.hbm, 387, rfl⟩
abbrev main_call11_v1 : Ref sig .tc := ⟨.hbm, 388, rfl⟩
abbrev main_call11_v2 : Ref sig .tc := ⟨.hbm, 389, rfl⟩
abbrev main_v258 : Ref sig .tc := ⟨.hbm, 390, rfl⟩
abbrev main_v259 : Ref sig .tc := ⟨.hbm, 391, rfl⟩
abbrev main_v260 : Ref sig .tc := ⟨.hbm, 392, rfl⟩
abbrev main_v261 : Ref sig .tc := ⟨.hbm, 393, rfl⟩
abbrev main_v262 : Ref sig .tc := ⟨.hbm, 394, rfl⟩
abbrev main_v263 : Ref sig .tc := ⟨.hbm, 395, rfl⟩
abbrev main_v264 : Ref sig .tc := ⟨.hbm, 396, rfl⟩
abbrev main_v265 : Ref sig .tc := ⟨.hbm, 397, rfl⟩
abbrev main_cst_86 : Ref sig .tc := ⟨.hbm, 398, rfl⟩
abbrev main_v266 : Ref sig .tc := ⟨.hbm, 399, rfl⟩
abbrev main_v267 : Ref sig .tc := ⟨.hbm, 400, rfl⟩
abbrev main_v268 : Ref sig .tc := ⟨.hbm, 401, rfl⟩
abbrev main_cst_87 : Ref sig .tc := ⟨.hbm, 402, rfl⟩
abbrev main_v269 : Ref sig .tc := ⟨.hbm, 403, rfl⟩
abbrev main_v270 : Ref sig .tc := ⟨.hbm, 404, rfl⟩
abbrev main_v271 : Ref sig .tc := ⟨.hbm, 405, rfl⟩
abbrev main_cst_88 : Ref sig .tc := ⟨.hbm, 406, rfl⟩
abbrev main_v272 : Ref sig .tc := ⟨.hbm, 407, rfl⟩
abbrev main_v273 : Ref sig .tc := ⟨.hbm, 408, rfl⟩
abbrev main_v274 : Ref sig .tc := ⟨.hbm, 409, rfl⟩
abbrev main_v275 : Ref sig .tc := ⟨.hbm, 410, rfl⟩
abbrev main_v276 : Ref sig .tc := ⟨.hbm, 411, rfl⟩
abbrev main_v277 : Ref sig .tc := ⟨.hbm, 412, rfl⟩
abbrev main_v278 : Ref sig .tc := ⟨.hbm, 413, rfl⟩
abbrev main_v279 : Ref sig .tc := ⟨.hbm, 414, rfl⟩
abbrev main_v280 : Ref sig .tc := ⟨.hbm, 415, rfl⟩
abbrev main_values : Ref sig .tc := ⟨.hbm, 416, rfl⟩
abbrev main_indices : Ref sig .tc := ⟨.hbm, 417, rfl⟩
abbrev main_v281 : Ref sig .tc := ⟨.hbm, 418, rfl⟩
abbrev main_v282 : Ref sig .tc := ⟨.hbm, 419, rfl⟩
abbrev main_v283 : Ref sig .tc := ⟨.hbm, 420, rfl⟩
abbrev main_v284 : Ref sig .tc := ⟨.hbm, 421, rfl⟩

abbrev nD : Nat := 1
abbrev τ : Topo := Topo.v7x

variable {F : FTy → Type} [FloatOps F]
-- ==== Proof.Resize.lean ====
/-
The bilinear resize as two weighted sums

The kernel's host code spreads an image against a weight matrix, multiplies and sums, once along the rows and once
along the columns.  This module says what one element of the result is, over the extended reals.
-/
module

public import Idealize.ShloMosaic.PureOps
public import Idealize.ShloMosaic.PureOps.Ideal
public import Idealize.ShloMosaic.Lib.ValueIdx
public import Idealize.ShloMosaic.Lib.IdealHost
public import Idealize.ShloMosaic.Lib.KernelVsHost
public import Idealize.ShloMosaic.Lib.Pipeline.Value
public import Idealize.ShloMosaic.Lib.Pointwise.Reduce

@[expose] public section

noncomputable section

namespace Cert.Resize

open Idealize.ShloMosaic hiding ix0 ix1 ix2 ix3 ix4 ix5
open Idealize.ShloMosaic.ValueIdx

/-- The shape facts of one resize of `2 × N` images from `n × n` to `64 × 64`. -/
structure Ok (N n : Nat) : Prop where
  one : n ≠ 1
  many : N ≠ 1
  spreadX : (⟨4, ![2, N, n, n]⟩ : Shape).BroadcastsInDim ⟨5, ![2, N, n, 1, n]⟩ ![0, 1, 2, 4]
  spreadW : (⟨2, ![n, 64]⟩ : Shape).BroadcastsInDim ⟨5, ![1, 1, n, 64, 1]⟩ ![2, 3]
  fillX : (⟨5, ![2, N, n, 1, n]⟩ : Shape).BroadcastsInDim ⟨5, ![2, N, n, 64, n]⟩ ![0, 1, 2, 3, 4]
  fillW : (⟨5, ![1, 1, n, 64, 1]⟩ : Shape).BroadcastsInDim ⟨5, ![2, N, n, 64, n]⟩ ![0, 1, 2, 3, 4]
  sumRows : (⟨5, ![2, N, n, 64, n]⟩ : Shape).ReducesTo [2] ⟨4, ![2, N, 64, n]⟩
  spreadY : (⟨4, ![2, N, 64, n]⟩ : Shape).BroadcastsInDim ⟨5, ![2, N, 64, n, 1]⟩ ![0, 1, 2, 3]
  spreadW' : (⟨2, ![n, 64]⟩ : Shape).BroadcastsInDim ⟨5, ![1, 1, 1, n, 64]⟩ ![3, 4]
  fillY : (⟨5, ![2, N, 64, n, 1]⟩ : Shape).BroadcastsInDim ⟨5, ![2, N, 64, n, 64]⟩ ![0, 1, 2, 3, 4]
  fillW' : (⟨5, ![1, 1, 1, n, 64]⟩ : Shape).BroadcastsInDim ⟨5, ![2, N, 64, n, 64]⟩ ![0, 1, 2, 3, 4]
  sumCols : (⟨5, ![2, N, 64, n, 64]⟩ : Shape).ReducesTo [3] ⟨4, ![2, N, 64, 64]⟩
  scalar : 0 < (⟨0, ![]⟩ : Shape).numel

variable {F : FTy → Type} [FloatOps F] {N n : Nat}

/-- The sum over the rows: `y[b, c, i, q] = ∑ k, x[b, c, k, q] * w[k, i]`. -/
def rows (h : Ok N n) (x : FVec F ⟨4, ![2, N, n, n]⟩ .f32) (w : FVec F ⟨2, ![n, 64]⟩ .f32) :
    FVec F ⟨4, ![2, N, 64, n]⟩ .f32 :=
  Host.reduceAdd
    (mulf (broadcastInDim ⟨5, ![2, N, n, 64, n]⟩ ![0, 1, 2, 3, 4] h.fillX
        (broadcastInDim ⟨5, ![2, N, n, 1, n]⟩ ![0, 1, 2, 4] h.spreadX x))
      (broadcastInDim ⟨5, ![2, N, n, 64, n]⟩ ![0, 1, 2, 3, 4] h.fillW
        (broadcastInDim ⟨5, ![1, 1, n, 64, 1]⟩ ![2, 3] h.spreadW w)))
    (constant ⟨0, ![]⟩ .f32 0x00000000#32) h.sumRows h.scalar

/-- The sum over the columns: `z[b, c, i, j] = ∑ k, y[b, c, i, k] * w[k, j]`. -/
def cols (h : Ok N n) (y : FVec F ⟨4, ![2, N, 64, n]⟩ .f32) (w : FVec F ⟨2, ![n, 64]⟩ .f32) :
    FVec F ⟨4, ![2, N, 64, 64]⟩ .f32 :=
  Host.reduceAdd
    (mulf (broadcastInDim ⟨5, ![2, N, 64, n, 64]⟩ ![0, 1, 2, 3, 4] h.fillY
        (broadcastInDim ⟨5, ![2, N, 64, n, 1]⟩ ![0, 1, 2, 3] h.spreadY y))
      (broadcastInDim ⟨5, ![2, N, 64, n, 64]⟩ ![0, 1, 2, 3, 4] h.fillW'
        (broadcastInDim ⟨5, ![1, 1, 1, n, 64]⟩ ![3, 4] h.spreadW' w)))
    (constant ⟨0, ![]⟩ .f32 0x00000000#32) h.sumCols h.scalar

/-- One element of the sum over the rows, over the extended reals. -/
theorem rows_apply (h : Ok N n) (x : FVec Ideal ⟨4, ![2, N, n, n]⟩ .f32) (w : FVec Ideal ⟨2, ![n, 64]⟩ .f32)
    (b : Fin 2) (c : Fin N) (i : Fin 64) (q : Fin n) :
    rows h x w (ix4 b c i q) = ∑ k : Fin n, x (ix4 b c k q) * w (ix2 k i) := by
  have hn := h.one
  have hN := h.many
  unfold rows
  rw [hostReduceAdd_apply, Ideal.hostReduceAdd_r5_a2]
  have h0 : (constant (F := Ideal) ⟨0, ![]⟩ .f32 0x00000000#32 : FVec Ideal ⟨0, ![]⟩ .f32) (Shape.Idx.first h.scalar) = 0 := by
    show Ideal.ofBits .f32 0x00000000#32 = 0
    simp [Ideal.ofBits, Ideal.ieee]
  rw [h0, zero_add]
  refine Finset.sum_congr rfl fun k _ => ?_
  rw [mulf_apply]
  congr 1
  · rw [broadcastInDim_apply (k := ix5 b c k 0 q), broadcastInDim_apply (k := ix4 b c k q)]
    · intro a; fin_cases a <;> simp [hn, hN] <;> rfl
    · intro a; fin_cases a <;> simp [hn, hN] <;> rfl
  · rw [broadcastInDim_apply (k := ix5 0 0 k i 0), broadcastInDim_apply (k := ix2 k i)]
    · intro a; fin_cases a <;> simp [hn] <;> rfl
    · intro a; fin_cases a <;> simp [hn] <;> rfl

/-- One element of the sum over the columns, over the extended reals. -/
theorem cols_apply (h : Ok N n) (y : FVec Ideal ⟨4, ![2, N, 64, n]⟩ .f32) (w : FVec Ideal ⟨2, ![n, 64]⟩ .f32)
    (b : Fin 2) (c : Fin N) (i j : Fin 64) :
    cols h y w (ix4 b c i j) = ∑ k : Fin n, y (ix4 b c i k) * w (ix2 k j) := by
  have hn := h.one
  have hN := h.many
  unfold cols
  rw [hostReduceAdd_apply, Ideal.hostReduceAdd_r5_a3]
  have h0 : (constant (F := Ideal) ⟨0, ![]⟩ .f32 0x00000000#32 : FVec Ideal ⟨0, ![]⟩ .f32) (Shape.Idx.first h.scalar) = 0 := by
    show Ideal.ofBits .f32 0x00000000#32 = 0
    simp [Ideal.ofBits, Ideal.ieee]
  rw [h0, zero_add]
  refine Finset.sum_congr rfl fun k _ => ?_
  rw [mulf_apply]
  congr 1
  · rw [broadcastInDim_apply (k := ix5 b c i k 0), broadcastInDim_apply (k := ix4 b c i k)]
    · intro a; fin_cases a <;> simp [hn, hN] <;> rfl
    · intro a; fin_cases a <;> simp [hn, hN] <;> rfl
  · rw [broadcastInDim_apply (k := ix5 0 0 0 k j), broadcastInDim_apply (k := ix2 k j)]
    · intro a; fin_cases a <;> simp [hn] <;> rfl
    · intro a; fin_cases a <;> simp [hn] <;> rfl

end Cert.Resize

end
-- ==== Proof.Host.lean ====
/-
The kernel's host code before the launch, read: what `PHI_P` and the launch's first operand are, as functions of the
arguments. The two convolutions and the interpolation weights are the reference's own terms; the resizes are sums where the
reference multiplies matrices, and over the extended reals they are equal.
-/
module

public import proofs.«01_k».proof.Proof.Resize
public import proofs.«01_k».proof.Proof.Gen.KernelIdeal.Frame
public import proofs.«01_k».proof.Proof.Gen.ReferenceIdeal.Read
public import Idealize.ShloMosaic.Lib.Tactic

@[expose] public section

set_option maxRecDepth 16384

noncomputable section

namespace Cert.KernelIdeal.Value

open Idealize.ShloMosaic hiding ix0 ix1 ix2 ix3 ix4 ix5
open Idealize.ShloMosaic.ValueIdx
open Idealize.ShloMosaic.TcCoe Idealize.SL.Sem
open Cert.KernelIdeal Cert.KernelIdeal.Gen
open Cert.ReferenceIdeal.Read

variable {F : FTy → Type} [FloatOps F]

/-- The shape facts of the resize of the second level. -/
theorem ok32 : Resize.Ok 512 32 :=
  ⟨by decide, by decide, bcast_S2x512x32x32_S2x512x32x1x32_0_1_2_4, bcast_S32x64_S1x1x32x64x1_2_3,
    bcast_S2x512x32x1x32_S2x512x32x64x32_0_1_2_3_4, bcast_S1x1x32x64x1_S2x512x32x64x32_0_1_2_3_4,
    reducesTo_S2x512x32x64x32_S2x512x64x32_d2, bcast_S2x512x64x32_S2x512x64x32x1_0_1_2_3,
    bcast_S32x64_S1x1x1x32x64_3_4, bcast_S2x512x64x32x1_S2x512x64x32x64_0_1_2_3_4,
    bcast_S1x1x1x32x64_S2x512x64x32x64_0_1_2_3_4, reducesTo_S2x512x64x32x64_S2x512x64x64_d3, h_S_⟩

/-- The shape facts of the resize of the third level. -/
theorem ok16 : Resize.Ok 1024 16 :=
  ⟨by decide, by decide, bcast_S2x1024x16x16_S2x1024x16x1x16_0_1_2_4, bcast_S16x64_S1x1x16x64x1_2_3,
    bcast_S2x1024x16x1x16_S2x1024x16x64x16_0_1_2_3_4, bcast_S1x1x16x64x1_S2x1024x16x64x16_0_1_2_3_4,
    reducesTo_S2x1024x16x64x16_S2x1024x64x16_d2, bcast_S2x1024x64x16_S2x1024x64x16x1_0_1_2_3,
    bcast_S16x64_S1x1x1x16x64_3_4, bcast_S2x1024x64x16x1_S2x1024x64x16x64_0_1_2_3_4,
    bcast_S1x1x1x16x64_S2x1024x64x16x64_0_1_2_3_4, reducesTo_S2x1024x64x16x64_S2x1024x64x64_d3, h_S_⟩

/-- The second level of the descriptor as the kernel's host code computes it: the convolution, resized by two sums. -/
def level2 (x1 : FVec F S2x512x32x32 .f32) (x7 : FVec F S512x514 .f32) (x8 : FVec F S512 .f32) :
    FVec F S2x512x64x64 .f32 :=
  Resize.cols ok32 (Resize.rows ok32 (val_main_v55 (F := F) x1 x7 x8) (val_main_v98 (F := F))) (val_main_v98 (F := F))

/-- The third level of the descriptor as the kernel's host code computes it. -/
def level3 (x2 : FVec F S2x1024x16x16 .f32) (x9 : FVec F S1024x1026 .f32) (x10 : FVec F S1024 .f32) :
    FVec F S2x1024x64x64 .f32 :=
  Resize.cols ok16 (Resize.rows ok16 (val_main_v172 (F := F) x2 x9 x10) (val_main_v215 (F := F))) (val_main_v215 (F := F))

variable (m : (ℓ : Loc nD τ sig) → Buf (Elt F) ℓ) (c : Dev nD)

/-- The first level: the same convolution as the reference's. -/
theorem host_v27 : V m c main_v27 = val_main_v27 (F := F) (m ((c : Thread nD τ).loc main_arg0))
    (m ((c : Thread nD τ).loc main_arg5)) (m ((c : Thread nD τ).loc main_arg6)) := by
  sl_kernel_rfl

/-- The second level, resized. -/
theorem host_v111 : V m c main_v111 = level2 (F := F) (m ((c : Thread nD τ).loc main_arg1))
    (m ((c : Thread nD τ).loc main_arg7)) (m ((c : Thread nD τ).loc main_arg8)) := by
  sl_kernel_rfl

/-- The third level, resized. -/
theorem host_v194 : V m c main_v194 = level3 (F := F) (m ((c : Thread nD τ).loc main_arg2))
    (m ((c : Thread nD τ).loc main_arg9)) (m ((c : Thread nD τ).loc main_arg10)) := by
  sl_kernel_rfl

/-- `PHI_P` is the concatenation of the three levels. -/
theorem host_v195 : V m c main_v195 = concatenate S2x1792x64x64 1
    [⟨S2x256x64x64, (V m c main_v27 : FVec F S2x256x64x64 .f32)⟩, ⟨S2x512x64x64, (V m c main_v111 : FVec F S2x512x64x64 .f32)⟩,
     ⟨S2x1024x64x64, (V m c main_v194 : FVec F S2x1024x64x64 .f32)⟩] concatenates_S2x256x64x64_S2x512x64x64_S2x1024x64x64_S2x1792x64x64_d1 := by
  sl_kernel_rfl

/-- The memory before the launch, its last list of operations apart. -/
theorem V_eq (b : Ref sig .tc) : V m c b = StableHlo.after hostOps0_13 (StableHlo.after (List.flatten [hostOps0, hostOps0_1, hostOps0_2, hostOps0_3, hostOps0_4, hostOps0_5, hostOps0_6,
    hostOps0_7, hostOps0_8, hostOps0_9, hostOps0_10, hostOps0_11, hostOps0_12]) (fun b => m (c, b))) (Proc.devRef .tc b) := by
  unfold V V0
  rw [← StableHlo.after_append]
  rfl

/-- The last three of those operations. -/
theorem tail_v198 (W : Valuation τ sig (Elt F)) : StableHlo.after hostOps0_13 W (Proc.devRef .tc main_v198) = shapeCast S8192x1792 (transpose S2x4096x1792 [0, 2, 1]
    (shapeCast S2x1792x4096 (StableHlo.after hostOps0_13 W (Proc.devRef .tc main_v195) : FVec F S2x1792x64x64 .f32) shapeCasts_S2x1792x64x64_S2x1792x4096)
    transposes_S2x1792x4096_S2x4096x1792_0_2_1) shapeCasts_S2x4096x1792_S8192x1792 := by
  unfold hostOps0_13
  after_results_simp
  rfl

/-- The launch's first operand is `PHI_P`, one row a pixel. -/
theorem host_v198 : V m c main_v198 = shapeCast S8192x1792 (transpose S2x4096x1792 [0, 2, 1]
    (shapeCast S2x1792x4096 (V m c main_v195 : FVec F S2x1792x64x64 .f32) shapeCasts_S2x1792x64x64_S2x1792x4096)
    transposes_S2x1792x4096_S2x4096x1792_0_2_1) shapeCasts_S2x4096x1792_S8192x1792 := by
  rw [V_eq, V_eq]
  exact tail_v198 _

/-- Over the extended reals the two sums of the second level are the reference's two matrix products. -/
theorem level2_eq (x1 : FVec Ideal S2x512x32x32 .f32) (x7 : FVec Ideal S512x514 .f32) (x8 : FVec Ideal S512 .f32) :
    level2 x1 x7 x8 = val_main_v144 (F := Ideal) x1 x7 x8 := by
  funext i
  obtain ⟨b, ch, y, x, rfl⟩ : ∃ b ch y x, i = ix4 b ch y x := ⟨_, _, _, _, ValueIdx.eq_ix4 i⟩
  rw [val_main_v144_apply, val_main_v143_apply]
  unfold level2
  rw [Resize.cols_apply]
  refine Finset.sum_congr rfl fun k _ => ?_
  rw [Resize.rows_apply, val_main_v142_apply]
  have hw : val_main_v141 (F := Ideal) = val_main_v98 (F := Ideal) := by sl_kernel_rfl
  rw [hw]
  have e0 : ridx_main_v143 (idx_main_v144 (ix4 b ch y x)) k = ix2 k x := by funext a; fin_cases a <;> rfl
  have e1 (k' : Fin 32) : lidx_main_v142 (lidx_main_v143 (idx_main_v144 (ix4 b ch y x)) k) k' = ix2 k' y := by
    funext a; fin_cases a <;> rfl
  have e2 (k' : Fin 32) : ridx_main_v142 (lidx_main_v143 (idx_main_v144 (ix4 b ch y x)) k) k' = ix4 b ch k' k := by
    funext a; fin_cases a <;> rfl
  rw [e0]
  refine congrArg (· * _) (Finset.sum_congr rfl fun k' _ => ?_)
  rw [e1, e2, mul_comm]

/-- Over the extended reals the two sums of the third level are the reference's two matrix products. -/
theorem level3_eq (x2 : FVec Ideal S2x1024x16x16 .f32) (x9 : FVec Ideal S1024x1026 .f32) (x10 : FVec Ideal S1024 .f32) :
    level3 x2 x9 x10 = val_main_v261 (F := Ideal) x2 x9 x10 := by
  funext i
  obtain ⟨b, ch, y, x, rfl⟩ : ∃ b ch y x, i = ix4 b ch y x := ⟨_, _, _, _, ValueIdx.eq_ix4 i⟩
  rw [val_main_v261_apply, val_main_v260_apply]
  unfold level3
  rw [Resize.cols_apply]
  refine Finset.sum_congr rfl fun k _ => ?_
  rw [Resize.rows_apply, val_main_v259_apply]
  have hw : val_main_v258 (F := Ideal) = val_main_v215 (F := Ideal) := by sl_kernel_rfl
  rw [hw]
  have e0 : ridx_main_v260 (idx_main_v261 (ix4 b ch y x)) k = ix2 k x := by funext a; fin_cases a <;> rfl
  have e1 (k' : Fin 16) : lidx_main_v259 (lidx_main_v260 (idx_main_v261 (ix4 b ch y x)) k) k' = ix2 k' y := by
    funext a; fin_cases a <;> rfl
  have e2 (k' : Fin 16) : ridx_main_v259 (lidx_main_v260 (idx_main_v261 (ix4 b ch y x)) k) k' = ix4 b ch k' k := by
    funext a; fin_cases a <;> rfl
  rw [e0]
  refine congrArg (· * _) (Finset.sum_congr rfl fun k' _ => ?_)
  rw [e1, e2, mul_comm]

/-- `PHI_P` of the kernel's host code is the reference's, over the extended reals. -/
theorem phi_eq (m : (ℓ : Loc nD τ sig) → Buf (Elt Ideal) ℓ) (c : Dev nD) :
    V m c main_v195 = val_main_v262 (F := Ideal) (m ((c : Thread nD τ).loc main_arg0)) (m ((c : Thread nD τ).loc main_arg1))
      (m ((c : Thread nD τ).loc main_arg2)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) := by
  rw [host_v195, host_v27, host_v111, host_v194, level2_eq, level3_eq]
  rfl

end Cert.KernelIdeal.Value

end
-- ==== Proof.Net.lean ====
/-
  The sorting network of the kernel, on one row: a row is a function of its lane, and nothing here speaks of tensors.
  `cex d up` is one compare-exchange stage, `merge k up` the k stages that sort every aligned block of 2^k lanes whose
  values rise and then fall, `runs` the network that leaves sorted runs of 256 lanes, and `top256` the whole selection.
  `lt_top256_iff` says what it computes: lane l < 256 of the result is the l-th smallest of the 4096 values. The proof
  looks at one threshold at a time, so that a row is a row of "above the threshold" bits.
-/
module

public import Idealize.ShloMosaic.Lib.SortFacts
public import Mathlib.Tactic.Ring
public import Mathlib.Tactic.Positivity
public import Mathlib.Algebra.BigOperators.Group.Finset.Basic

@[expose] public section

namespace Cert.Net

variable {α : Type} [LinearOrder α]

/-- One compare-exchange stage: lanes `l` and `l + d` (bit `d` of `l` clear) are put in order, rising where `up` holds and
    falling elsewhere. -/
def cex (d : ℕ) (up : ℕ → Prop) [DecidablePred up] (a : ℕ → α) (l : ℕ) : α :=
  if l / d % 2 = 0 then (if up l then min (a l) (a (l + d)) else max (a l) (a (l + d)))
  else (if up l then max (a l) (a (l - d)) else min (a l) (a (l - d)))

/-- The stages at distances 2^(k-1), …, 2, 1, in this order. -/
def merge : (k : ℕ) → (up : ℕ → Prop) → [DecidablePred up] → (ℕ → α) → ℕ → α
  | 0, _, _, a => a
  | k + 1, up, _, a => merge k up (cex (2 ^ k) up a)

/-- The direction of a stage: rising where bit `q` of the lane is clear. -/
def upb (q : ℕ) (l : ℕ) : Prop := l / q % 2 = 0

instance (q : ℕ) : DecidablePred (upb q) := fun l => inferInstanceAs (Decidable (l / q % 2 = 0))

/-- The smaller of each lane of the lower half and its partner in the upper half, the halves being `h` lanes wide. -/
def halve (h : ℕ) (a : ℕ → α) (l : ℕ) : α := min (a l) (a (l + h))

/-- Runs of 256 lanes, rising in the lower half of 4096 lanes and falling in the upper half. -/
def runs (a : ℕ → α) : ℕ → α :=
  merge 8 (upb 2048) (merge 7 (upb 128) (merge 6 (upb 64) (merge 5 (upb 32) (merge 4 (upb 16) (merge 3 (upb 8)
    (merge 2 (upb 4) (merge 1 (upb 2) a)))))))

/-- The whole selection: the runs, then four rounds that halve the lanes and keep the 256 smallest of each pair of runs. -/
def top256 (a : ℕ → α) : ℕ → α :=
  merge 8 (upb 256) (halve 256 (merge 8 (upb 256) (halve 512 (merge 8 (upb 512) (halve 1024 (merge 8 (upb 1024)
    (halve 2048 (runs a))))))))

/-! ## Rows of bits: which lanes are above the threshold -/

/-- The block of `n` lanes from `base` rises: its first `z` values are not above `t`, the others are. -/
def Asc (a : ℕ → α) (t : α) (base n z : ℕ) : Prop := ∀ i, i < n → (t < a (base + i) ↔ z ≤ i)

/-- The block of `n` lanes from `base` falls: its last `z` values are not above `t`, the others are. -/
def Desc (a : ℕ → α) (t : α) (base n z : ℕ) : Prop := ∀ i, i < n → (t < a (base + i) ↔ i + z < n)

/-- In the block of `n` lanes from `base`, read as a circle, the `c` lanes from `s` on are the ones above `t`. -/
def Arc (a : ℕ → α) (t : α) (base n s c : ℕ) : Prop :=
  ∀ i, i < n → (t < a (base + i) ↔ (s ≤ i ∧ i < s + c) ∨ i + n < s + c)

/-- In the lower half of an aligned block of `2 n` lanes, the bit worth `n` is clear. -/
theorem low_bit {n base i : ℕ} (hb : base % (2 * n) = 0) (hi : i < n) : (base + i) / n % 2 = 0 := by
  obtain ⟨q, rfl⟩ := Nat.dvd_of_mod_eq_zero hb
  have : (2 * n * q + i) / n = 2 * q := by
    rw [show 2 * n * q + i = i + n * (2 * q) by ring, Nat.add_mul_div_left _ _ (by omega), Nat.div_eq_of_lt hi]; omega
  omega

/-- In the upper half of an aligned block of `2 n` lanes, the bit worth `n` is set. -/
theorem high_bit {n base i : ℕ} (hb : base % (2 * n) = 0) (hi : i < n) : (base + n + i) / n % 2 = 1 := by
  obtain ⟨q, rfl⟩ := Nat.dvd_of_mod_eq_zero hb
  have : (2 * n * q + n + i) / n = 2 * q + 1 := by
    rw [show 2 * n * q + n + i = i + n * (2 * q + 1) by ring, Nat.add_mul_div_left _ _ (by omega), Nat.div_eq_of_lt hi]
    omega
  omega

/-- A rising stage leaves on a circle's lower half the arc's overlap with itself, on its upper half the rest. -/
theorem cex_up {a : ℕ → α} {t : α} {up : ℕ → Prop} [DecidablePred up] {base n s c : ℕ} (hb : base % (2 * n) = 0)
    (h : Arc a t base (2 * n) s c) (hs : s ≤ 2 * n) (hc : c ≤ 2 * n) (hup : ∀ i, i < 2 * n → up (base + i)) :
    Arc (cex n up a) t base n (if s ≤ n then s else s - n) (c - n)
      ∧ Arc (cex n up a) t (base + n) n (if s ≤ n then s else s - n) (min c n) := by
  refine ⟨fun i hi => ?_, fun i hi => ?_⟩
  · have h1 := h i (by omega)
    have h2 := h (n + i) (by omega)
    have e : base + i + n = base + (n + i) := by omega
    unfold cex
    rw [if_pos (low_bit hb hi), if_pos (hup i (by omega)), lt_min_iff, e, h1, h2]
    split <;> omega
  · have h1 := h i (by omega)
    have h2 := h (n + i) (by omega)
    have e : base + n + i - n = base + i := by omega
    have e' : base + n + i = base + (n + i) := by omega
    unfold cex
    rw [if_neg (by rw [high_bit hb hi]; decide), e, e', if_pos (hup (n + i) (by omega)), lt_max_iff, h1, h2]
    split <;> omega

/-- A falling stage does the same with the halves exchanged. -/
theorem cex_down {a : ℕ → α} {t : α} {up : ℕ → Prop} [DecidablePred up] {base n s c : ℕ} (hb : base % (2 * n) = 0)
    (h : Arc a t base (2 * n) s c) (hs : s ≤ 2 * n) (hc : c ≤ 2 * n) (hup : ∀ i, i < 2 * n → ¬up (base + i)) :
    Arc (cex n up a) t base n (if s ≤ n then s else s - n) (min c n)
      ∧ Arc (cex n up a) t (base + n) n (if s ≤ n then s else s - n) (c - n) := by
  refine ⟨fun i hi => ?_, fun i hi => ?_⟩
  · have h1 := h i (by omega)
    have h2 := h (n + i) (by omega)
    have e : base + i + n = base + (n + i) := by omega
    unfold cex
    rw [if_pos (low_bit hb hi), if_neg (hup i (by omega)), lt_max_iff, e, h1, h2]
    split <;> omega
  · have h1 := h i (by omega)
    have h2 := h (n + i) (by omega)
    have e : base + n + i - n = base + i := by omega
    have e' : base + n + i = base + (n + i) := by omega
    unfold cex
    rw [if_neg (by rw [high_bit hb hi]; decide), e, e', if_neg (hup (n + i) (by omega)), lt_min_iff, h1, h2]
    split <;> omega

/-- The two halves of an aligned block are aligned. -/
theorem halves_mod {k base : ℕ} (hb : base % 2 ^ (k + 1) = 0) : base % 2 ^ k = 0 ∧ (base + 2 ^ k) % 2 ^ k = 0 := by
  have h : base % 2 ^ k = 0 := by
    obtain ⟨q, rfl⟩ := Nat.dvd_of_mod_eq_zero hb
    rw [pow_succ, mul_assoc]; exact Nat.mul_mod_right _ _
  exact ⟨h, by rw [Nat.add_mod_right]; exact h⟩

/-- Where the direction is rising, merging sorts a block that is an arc. -/
theorem merge_up {t : α} {up : ℕ → Prop} [DecidablePred up] (k : ℕ) : ∀ {a : ℕ → α} {base s c : ℕ}, base % 2 ^ k = 0 →
    Arc a t base (2 ^ k) s c → s ≤ 2 ^ k → c ≤ 2 ^ k → (∀ i, i < 2 ^ k → up (base + i)) →
    Asc (merge k up a) t base (2 ^ k) (2 ^ k - c) := by
  induction k with
  | zero =>
    intro a base s c _ h hs hc _ i hi
    rw [merge, h i hi]
    simp only [pow_zero] at hs hc hi ⊢
    omega
  | succ k ih =>
    intro a base s c hb h hs hc hup
    obtain ⟨hb0, hb1⟩ := halves_mod hb
    rw [show 2 ^ (k + 1) = 2 * 2 ^ k by ring] at hb h hs hc hup ⊢
    obtain ⟨h0, h1⟩ := cex_up hb h hs hc hup
    have hs' : (if s ≤ 2 ^ k then s else s - 2 ^ k) ≤ 2 ^ k := by split <;> omega
    have r0 := ih hb0 h0 hs' (by omega) fun i hi => hup i (by omega)
    have r1 := ih hb1 h1 hs' (by omega) fun i hi => by rw [add_assoc]; exact hup _ (by omega)
    intro i hi
    rw [merge]
    rcases lt_or_ge i (2 ^ k) with hlt | hge
    · rw [r0 i hlt]; omega
    · have := r1 (i - 2 ^ k) (by omega)
      rw [show base + 2 ^ k + (i - 2 ^ k) = base + i by omega] at this
      rw [this]; omega

/-- Where the direction is falling, merging sorts a block that is an arc the other way round. -/
theorem merge_down {t : α} {up : ℕ → Prop} [DecidablePred up] (k : ℕ) : ∀ {a : ℕ → α} {base s c : ℕ}, base % 2 ^ k = 0 →
    Arc a t base (2 ^ k) s c → s ≤ 2 ^ k → c ≤ 2 ^ k → (∀ i, i < 2 ^ k → ¬up (base + i)) →
    Desc (merge k up a) t base (2 ^ k) (2 ^ k - c) := by
  induction k with
  | zero =>
    intro a base s c _ h hs hc _ i hi
    rw [merge, h i hi]
    simp only [pow_zero] at hs hc hi ⊢
    omega
  | succ k ih =>
    intro a base s c hb h hs hc hup
    obtain ⟨hb0, hb1⟩ := halves_mod hb
    rw [show 2 ^ (k + 1) = 2 * 2 ^ k by ring] at hb h hs hc hup ⊢
    obtain ⟨h0, h1⟩ := cex_down hb h hs hc hup
    have hs' : (if s ≤ 2 ^ k then s else s - 2 ^ k) ≤ 2 ^ k := by split <;> omega
    have r0 := ih hb0 h0 hs' (by omega) fun i hi => hup i (by omega)
    have r1 := ih hb1 h1 hs' (by omega) fun i hi => by rw [add_assoc]; exact hup _ (by omega)
    intro i hi
    rw [merge]
    rcases lt_or_ge i (2 ^ k) with hlt | hge
    · rw [r0 i hlt]; omega
    · have := r1 (i - 2 ^ k) (by omega)
      rw [show base + 2 ^ k + (i - 2 ^ k) = base + i by omega] at this
      rw [this]; omega

/-! ## The runs -/

/-- Every block of 2^k lanes is sorted, rising where bit `q` of its lanes is clear and falling elsewhere, and block `j` has
    `Z j` values that are not above `t`. -/
def Sorted (a : ℕ → α) (t : α) (k : ℕ) (q : ℕ) (Z : ℕ → ℕ) : Prop :=
  ∀ j, Z j ≤ 2 ^ k ∧ (upb q (j * 2 ^ k) → Asc a t (j * 2 ^ k) (2 ^ k) (Z j))
    ∧ (¬upb q (j * 2 ^ k) → Desc a t (j * 2 ^ k) (2 ^ k) (Z j))

/-- The direction is the same all over a block of 2^k lanes when it hangs on a bit worth 2^k or more. -/
theorem upb_block {k e j i : ℕ} (hi : i < 2 ^ k) : upb (2 ^ (k + e)) (j * 2 ^ k + i) ↔ upb (2 ^ (k + e)) (j * 2 ^ k) := by
  unfold upb
  rw [pow_add, ← Nat.div_div_eq_div_mul, ← Nat.div_div_eq_div_mul, Nat.mul_div_cancel _ (by positivity),
    show j * 2 ^ k + i = i + 2 ^ k * j by ring, Nat.add_mul_div_left _ _ (by positivity), Nat.div_eq_of_lt hi, zero_add]

/-- Merging blocks that are arcs, in directions constant on each block, leaves sorted blocks. -/
theorem sorted_of_arcs {a : ℕ → α} {t : α} (k e : ℕ) {s c : ℕ → ℕ}
    (h : ∀ j, Arc a t (j * 2 ^ k) (2 ^ k) (s j) (c j) ∧ s j ≤ 2 ^ k ∧ c j ≤ 2 ^ k) :
    Sorted (merge k (upb (2 ^ (k + e))) a) t k (2 ^ (k + e)) fun j => 2 ^ k - c j := by
  intro j
  obtain ⟨ha, hs, hc⟩ := h j
  exact ⟨Nat.sub_le _ _,
    fun hu => merge_up k (Nat.mul_mod_left _ _) ha hs hc fun i hi => (upb_block hi).2 hu,
    fun hu => merge_down k (Nat.mul_mod_left _ _) ha hs hc fun i hi h => hu ((upb_block hi).1 h)⟩

/-- Two sorted blocks side by side, rising then falling, are one arc. -/
theorem arcs_of_sorted {a : ℕ → α} {t : α} {k : ℕ} {Z : ℕ → ℕ} (h : Sorted a t k (2 ^ k) Z) (j : ℕ) :
    Arc a t (j * 2 ^ (k + 1)) (2 ^ (k + 1)) (Z (2 * j)) (2 ^ (k + 1) - (Z (2 * j) + Z (2 * j + 1)))
      ∧ Z (2 * j) ≤ 2 ^ (k + 1) ∧ 2 ^ (k + 1) - (Z (2 * j) + Z (2 * j + 1)) ≤ 2 ^ (k + 1) := by
  have hz0 := (h (2 * j)).1
  have hz1 := (h (2 * j + 1)).1
  have h0 := (h (2 * j)).2.1 (by unfold upb; rw [Nat.mul_div_cancel _ (by positivity)]; omega)
  have h1 := (h (2 * j + 1)).2.2 (by unfold upb; rw [Nat.mul_div_cancel _ (by positivity)]; omega)
  rw [show 2 ^ (k + 1) = 2 * 2 ^ k by ring]
  refine ⟨fun i hi => ?_, by omega, by omega⟩
  rcases lt_or_ge i (2 ^ k) with hlt | hge
  · have := h0 i hlt
    rw [show 2 * j * 2 ^ k + i = j * (2 * 2 ^ k) + i by ring] at this
    rw [this]; omega
  · have := h1 (i - 2 ^ k) (by omega)
    rw [show (2 * j + 1) * 2 ^ k + (i - 2 ^ k) = j * (2 * 2 ^ k) + (2 ^ k + (i - 2 ^ k)) by ring,
      show 2 ^ k + (i - 2 ^ k) = i by omega] at this
    rw [this]; omega

/-- How many values of block `j` of 2^k lanes are not above `t`. -/
def zeros (a : ℕ → α) (t : α) : ℕ → ℕ → ℕ
  | 0, j => if t < a j then 0 else 1
  | k + 1, j => zeros a t k (2 * j) + zeros a t k (2 * j + 1)

/-- A block of 2^k lanes has at most 2^k values that are not above `t`. -/
theorem zeros_le (a : ℕ → α) (t : α) (k : ℕ) : ∀ j, zeros a t k j ≤ 2 ^ k := by
  induction k with
  | zero => intro j; rw [zeros]; split <;> simp
  | succ k ih => intro j; rw [zeros, pow_succ]; have := ih (2 * j); have := ih (2 * j + 1); omega

/-- `Sorted` is about the values of the counts alone. -/
theorem sorted_congr {a : ℕ → α} {t : α} {k q : ℕ} {Z Z' : ℕ → ℕ} (h : Sorted a t k q Z) (hz : ∀ j, Z j = Z' j) :
    Sorted a t k q Z' := funext hz ▸ h

/-- One level of the network: sorted blocks of 2^k lanes become sorted blocks of 2^(k+1) lanes. -/
theorem sorted_succ {a a₀ : ℕ → α} {t : α} {k : ℕ} (e : ℕ) (h : Sorted a t k (2 ^ k) (zeros a₀ t k)) :
    Sorted (merge (k + 1) (upb (2 ^ (k + 1 + e))) a) t (k + 1) (2 ^ (k + 1 + e)) (zeros a₀ t (k + 1)) :=
  sorted_congr (sorted_of_arcs (k + 1) e (arcs_of_sorted h)) fun j => by
    have := zeros_le a₀ t (k + 1) j
    rw [zeros] at this ⊢
    omega

/-- Blocks of one lane are sorted. -/
theorem sorted_zero (a : ℕ → α) (t : α) : Sorted a t 0 (2 ^ 0) (zeros a t 0) := by
  intro j
  refine ⟨zeros_le a t 0 j, fun _ i hi => ?_, fun _ i hi => ?_⟩ <;>
    · simp only [pow_zero, Nat.lt_one_iff] at hi
      subst hi
      simp only [pow_zero, mul_one, add_zero, zeros]
      split <;> simp [*]

/-- After the runs, every block of 256 lanes is sorted in the direction its half asks for. -/
theorem sorted_runs (a : ℕ → α) (t : α) : Sorted (runs a) t 8 2048 (zeros a t 8) :=
  sorted_succ (k := 7) 3 (sorted_succ (k := 6) 0 (sorted_succ (k := 5) 0 (sorted_succ (k := 4) 0 (sorted_succ (k := 3) 0
    (sorted_succ (k := 2) 0 (sorted_succ (k := 1) 0 (sorted_succ (k := 0) 0 (sorted_zero a t))))))))

/-! ## The rounds -/

/-- What a sorted row says of the first `m` blocks of 256 lanes alone. -/
def SortedTo (m : ℕ) (a : ℕ → α) (t : α) (q : ℕ) (Z : ℕ → ℕ) : Prop :=
  ∀ j, j < m → Z j ≤ 256 ∧ (upb q (j * 256) → Asc a t (j * 256) 256 (Z j))
    ∧ (¬upb q (j * 256) → Desc a t (j * 256) 256 (Z j))

/-- One round: of `2 * m` sorted runs, rising in the lower half and falling in the upper, `m` runs stay, the run `j` holding
    the 256 smallest of the runs `j` and `m + j`. -/
theorem round {a : ℕ → α} {t : α} {m : ℕ} (e : ℕ) {Z : ℕ → ℕ} (hm : 0 < m) (h : SortedTo (2 * m) a t (m * 256) Z) :
    SortedTo m (merge 8 (upb (2 ^ (8 + e))) (halve (m * 256) a)) t (2 ^ (8 + e)) fun j => min 256 (Z j + Z (j + m)) := by
  intro j hj
  obtain ⟨z0, h0, _⟩ := h j (by omega)
  obtain ⟨z1, _, h1⟩ := h (j + m) (by omega)
  have u0 : upb (m * 256) (j * 256) := by
    unfold upb; rw [Nat.mul_div_mul_right _ _ (by decide), Nat.div_eq_of_lt hj]
  have u1 : ¬upb (m * 256) ((j + m) * 256) := by
    unfold upb
    rw [Nat.mul_div_mul_right _ _ (by decide), Nat.add_div_right _ hm, Nat.div_eq_of_lt hj]; decide
  have arc : Arc (halve (m * 256) a) t (j * 2 ^ 8) (2 ^ 8) (Z j) (256 - (Z j + Z (j + m))) := by
    intro i hi
    have hi' : i < 256 := hi
    have := h0 u0 i hi'
    have := h1 u1 i hi'
    unfold halve
    rw [lt_min_iff, show j * 2 ^ 8 + i + m * 256 = (j + m) * 256 + i by ring, show j * 2 ^ 8 + i = j * 256 + i by ring,
      h0 u0 i hi', h1 u1 i hi']
    omega
  have ez : min 256 (Z j + Z (j + m)) = 2 ^ 8 - (256 - (Z j + Z (j + m))) := by omega
  refine ⟨min_le_left _ _, fun hu => ?_, fun hu => ?_⟩
  · have := merge_up (up := upb (2 ^ (8 + e))) 8 (Nat.mul_mod_left _ _) arc (by omega) (by omega)
      fun i hi => (upb_block hi).2 hu
    beta_reduce
    rw [ez]; exact this
  · have := merge_down (up := upb (2 ^ (8 + e))) 8 (Nat.mul_mod_left _ _) arc (by omega) (by omega)
      fun i hi h => hu ((upb_block hi).1 h)
    beta_reduce
    rw [ez]; exact this

/-- A sum taken by pairs of neighbours is the sum. -/
theorem sum_pairs (f : ℕ → ℕ) (m : ℕ) :
    ∑ j ∈ Finset.range m, (f (2 * j) + f (2 * j + 1)) = ∑ j ∈ Finset.range (2 * m), f j := by
  induction m with
  | zero => rfl
  | succ m ih =>
    rw [Finset.sum_range_succ, ih, show 2 * (m + 1) = 2 * m + 1 + 1 by ring, Finset.sum_range_succ, Finset.sum_range_succ]
    omega

/-- The counts of the first `m` blocks of 2^k lanes add up to the count of their lanes. -/
theorem sum_zeros (a : ℕ → α) (t : α) (k : ℕ) : ∀ m, ∑ j ∈ Finset.range m, zeros a t k j
    = ∑ j ∈ Finset.range (2 ^ k * m), zeros a t 0 j := by
  induction k with
  | zero => intro m; rw [pow_zero, one_mul]
  | succ k ih =>
    intro m
    have : ∀ j, zeros a t (k + 1) j = zeros a t k (2 * j) + zeros a t k (2 * j + 1) := fun _ => rfl
    rw [Finset.sum_congr rfl fun j _ => this j, sum_pairs, ih, pow_succ, mul_assoc]

/-- THE SELECTION IS RIGHT: lane `l` of the 256 selected values is above `t` exactly when at most `l` of the 4096 values are
    not above `t`. So it is the `l`-th smallest of them, counted from zero. -/
theorem lt_top256_iff (a : ℕ → α) (t : α) {l : ℕ} (hl : l < 256) :
    t < top256 a l ↔ ((Finset.range 4096).filter fun j => a j ≤ t).card ≤ l := by
  have r0 : SortedTo (2 * 8) (runs a) t (8 * 256) (zeros a t 8) := fun j _ => sorted_runs a t j
  have r1 := round 2 (by decide) r0
  have r2 := round 1 (m := 4) (by decide) r1
  have r3 := round 0 (m := 2) (by decide) r2
  have r4 := round 0 (m := 1) (by decide) r3
  have h := (r4 0 (by decide)).2.1 (by unfold upb; decide) l hl
  rw [show 0 * 256 + l = l by omega] at h
  refine Iff.trans h ?_
  have e := sum_zeros a t 8 16
  have e' : ∑ j ∈ Finset.range 4096, zeros a t 0 j = ((Finset.range 4096).filter fun j => a j ≤ t).card := by
    rw [Finset.card_filter]
    refine Finset.sum_congr rfl fun j _ => ?_
    rw [zeros]
    by_cases hj : t < a j
    · rw [if_pos hj, if_neg (not_le.mpr hj)]
    · rw [if_neg hj, if_pos (not_lt.mp hj)]
  rw [show 2 ^ 8 * 16 = 4096 by decide, e'] at e
  simp only [Finset.sum_range_succ, Finset.sum_range_zero] at e
  beta_reduce
  simp only [Nat.zero_add, Nat.reduceAdd]
  omega

end Cert.Net

end
-- ==== Proof.Stage.lean ====
/-
  The sorting network of the kernel as it is printed, on blocks of 128 rows: `stage` is one compare-exchange stage whose
  partner lanes come from two rotations, `wide` the stage at distance 128, whose partner lanes come from slices put together
  in another order, `halveV` the minimum of the two halves, and `netV` the whole network. The theorems say what each does to a
  row (`IsRow`): what the network of Proof/Net.lean does to it.
-/
module

public import proofs.«01_k».proof.Proof.Net
public import Idealize.ShloMosaic.PureOps
public import Idealize.ShloMosaic.PureOps.Ideal
public import Idealize.ShloMosaic.Lib.ValueIdx
public import Idealize.ShloMosaic.Lib.KernelVsHost
public import Idealize.ShloMosaic.Lib.Pipeline.Value

@[expose] public section

noncomputable section

namespace Cert.Stage

open Idealize.ShloMosaic Idealize.ShloMosaic.ValueIdx Cert.Net

variable {F : FTy → Type} [FloatOps F]

/-- Blocks of 128 rows of `W` lanes. -/
abbrev SX (W : ℕ) : Shape := ⟨2, ![128, W]⟩
/-- One row of `W` lanes. -/
abbrev SL (W : ℕ) : Shape := ⟨2, ![1, W]⟩

/-- The side conditions of the operations of a stage, at width `W`. -/
structure Fits (W : ℕ) : Prop where
  iota : (SL W).Iotas .tc 32 [1]
  cast : (SL W).ShapeCasts (SL W)
  bc : (SL W).Broadcasts (SX W)
  rot : (SX W).Rotates 1 none

variable {W : ℕ}

/-- Where bit `d` of the lane is clear. -/
def bitMask (h : Fits W) (d : BitVec 32) : IVec (SL W) 1 :=
  cmpi .eq (andi (iota .tc (SL W) 32 [1] h.iota) (broadcast (SL W) d)) (broadcast (SL W) 0#32)

/-- A row's mask, on every row. -/
def onRows (h : Fits W) (m : IVec (SL W) 1) : IVec (SX W) 1 :=
  broadcastTo (SX W) (shapeCast (SL W) m h.cast) h.bc

/-- The smaller of a lane and its partner where bit `d` of the lane and the direction `up` agree, the larger elsewhere. -/
def exchange (h : Fits W) (d : BitVec 32) (up : IVec (SL W) 1) (x sw : FVec F (SX W) .bf16) : FVec F (SX W) .bf16 :=
  select (onRows h (xori (xori (bitMask h d) up) (constantI (SL W) 1 1#1))) (minimumf x sw) (maximumf x sw)

/-- A stage at distance `d`, `dr` being `W - d`: the partner of a lane is read off two rotations. -/
def stage (h : Fits W) (d dr : BitVec 32) (up : IVec (SL W) 1) (x : FVec F (SX W) .bf16) : FVec F (SX W) .bf16 :=
  exchange h d up x (select (onRows h (bitMask h d)) (dynamicRotate 1 dr none x h.rot) (dynamicRotate 1 d none x h.rot))

/-- The stages at distances 2^(k-1), …, 1. -/
def mergeV (h : Fits W) : ℕ → IVec (SL W) 1 → FVec F (SX W) .bf16 → FVec F (SX W) .bf16
  | 0, _, x => x
  | k + 1, up, x => mergeV h k up (stage h (BitVec.ofNat 32 (2 ^ k)) (BitVec.ofNat 32 (W - 2 ^ k)) up x)

/-- Which slice of 128 lanes stands at place `p` after the exchange of neighbours. -/
def nb (p : ℕ) : ℕ := if p % 2 = 0 then p + 1 else p - 1

/-- The side conditions of the stage at distance 128, for `N` slices. -/
structure Wide (W N : ℕ) : Prop where
  width : W = 128 * N
  slice : ∀ p : Fin N, (SX W).Slices ![0, 128 * nb p] (SX 128)
  cat : Shape.Concatenates (List.map (·.1) (List.ofFn fun _ : Fin N => (⟨SX 128, fun _ => ()⟩ : (s : Shape) × (s.Idx → Unit))))
    (SX W) 1

/-- The slices `f` gives, side by side, fill the row. -/
theorem Wide.cat' {N : ℕ} (hw : Wide W N) {α : Type} (f : Fin N → ((SX 128).Idx → α)) :
    Shape.Concatenates (List.map (·.1) (List.ofFn fun p : Fin N => (⟨SX 128, f p⟩ : (s : Shape) × (s.Idx → α)))) (SX W) 1 := by
  have h := hw.cat
  rw [List.map_ofFn] at h ⊢
  exact h

/-- The stage at distance 128: neighbouring slices of 128 lanes are exchanged. -/
def wide (h : Fits W) {N : ℕ} (hw : Wide W N) (up : IVec (SL W) 1) (x : FVec F (SX W) .bf16) : FVec F (SX W) .bf16 :=
  exchange h 128#32 up x (concatenate (SX W) 1
    (List.ofFn fun p : Fin N => ⟨SX 128, extractStridedSlice (SX 128) ![0, 128 * nb p] x (hw.slice p)⟩) (hw.cat' _))

/-- The smaller of the two halves. -/
def halveV {H : ℕ} (x : FVec F (SX W) .bf16) (h0 : (SX W).Slices ![0, 0] (SX H)) (h1 : (SX W).Slices ![0, H] (SX H)) :
    FVec F (SX H) .bf16 :=
  minimumf (extractStridedSlice (SX H) ![0, 0] x h0) (extractStridedSlice (SX H) ![0, H] x h1)

/-- The facts about shapes at 4096 lanes. -/
theorem fits4096 : Fits 4096 := ⟨by decide, by decide, by decide, by decide⟩
/-- The facts about shapes at 2048 lanes. -/
theorem fits2048 : Fits 2048 := ⟨by decide, by decide, by decide, by decide⟩
/-- The facts about shapes at 1024 lanes. -/
theorem fits1024 : Fits 1024 := ⟨by decide, by decide, by decide, by decide⟩
/-- The facts about shapes at 512 lanes. -/
theorem fits512 : Fits 512 := ⟨by decide, by decide, by decide, by decide⟩
/-- The facts about shapes at 256 lanes. -/
theorem fits256 : Fits 256 := ⟨by decide, by decide, by decide, by decide⟩

/-- 4096 lanes are 32 slices of 128. -/
theorem wide4096 : Wide 4096 32 := ⟨rfl, by decide, by decide⟩
/-- 2048 lanes are 16 slices of 128. -/
theorem wide2048 : Wide 2048 16 := ⟨rfl, by decide, by decide⟩
/-- 1024 lanes are 8 slices of 128. -/
theorem wide1024 : Wide 1024 8 := ⟨rfl, by decide, by decide⟩
/-- 512 lanes are 4 slices of 128. -/
theorem wide512 : Wide 512 4 := ⟨rfl, by decide, by decide⟩
/-- 256 lanes are 2 slices of 128. -/
theorem wide256 : Wide 256 2 := ⟨rfl, by decide, by decide⟩

/-- The eight stages of a merge of 256 lanes. -/
def merge8 (h : Fits W) {N : ℕ} (hw : Wide W N) (up : IVec (SL W) 1) (x : FVec F (SX W) .bf16) : FVec F (SX W) .bf16 :=
  mergeV h 7 up (wide h hw up x)

/-- The direction mask of the last round, which rises everywhere: no lane number is negative. -/
def allUp : IVec (SL 256) 1 := cmpi .sge (iota .tc (SL 256) 32 [1] fits256.iota) (broadcast (SL 256) 0#32)

/-- The first 36 stages, up to runs of 256 lanes. -/
def runsV (x : FVec F (SX 4096) .bf16) : FVec F (SX 4096) .bf16 :=
  merge8 fits4096 wide4096 (bitMask fits4096 2048#32) (mergeV fits4096 7 (bitMask fits4096 128#32)
    (mergeV fits4096 6 (bitMask fits4096 64#32) (mergeV fits4096 5 (bitMask fits4096 32#32)
      (mergeV fits4096 4 (bitMask fits4096 16#32) (mergeV fits4096 3 (bitMask fits4096 8#32)
        (mergeV fits4096 2 (bitMask fits4096 4#32) (mergeV fits4096 1 (bitMask fits4096 2#32) x)))))))

/-- The whole network: the runs, then four rounds. -/
def netV (x : FVec F (SX 4096) .bf16) : FVec F (SX 256) .bf16 :=
  merge8 fits256 wide256 allUp (halveV (merge8 fits512 wide512 (bitMask fits512 256#32)
    (halveV (merge8 fits1024 wide1024 (bitMask fits1024 512#32)
      (halveV (merge8 fits2048 wide2048 (bitMask fits2048 1024#32)
        (halveV (runsV x) (by decide) (by decide))) (by decide) (by decide))) (by decide) (by decide)))
    (by decide) (by decide))

/-! ## What they do to a row -/

/-- Row `r` of the block is `a`. -/
def IsRow (x : FVec Ideal (SX W) .bf16) (r : Fin 128) (a : ℕ → EReal) : Prop :=
  ∀ (l : ℕ) (h : l < W), x (ix2 r ⟨l, h⟩) = a l

/-- The mask holds exactly where `up` does. -/
def IsMask (m : IVec (SL W) 1) (up : ℕ → Prop) : Prop := ∀ (l : ℕ) (h : l < W), m (ix2 0 ⟨l, h⟩) = 1#1 ↔ up l

/-- A number masked with 2^k is zero exactly when its bit `k` is clear. -/
theorem and_two_pow_eq_zero (l k : ℕ) : l &&& 2 ^ k = 0 ↔ l / 2 ^ k % 2 = 0 := by
  have ht : l.testBit k = false ↔ l / 2 ^ k % 2 = 0 := by
    rw [Nat.testBit_eq_decide_div_mod_eq, decide_eq_false_iff_not]
    omega
  rw [← ht]
  constructor
  · intro h
    have h' := congrArg (fun n => Nat.testBit n k) h
    simpa [Nat.testBit_and, Nat.testBit_two_pow] using h'
  · intro h
    refine Nat.eq_of_testBit_eq fun i => ?_
    rw [Nat.testBit_and, Nat.testBit_two_pow, Nat.zero_testBit]
    by_cases hi : k = i
    · subst hi; simp [h]
    · simp [hi]

/-- The bit of a truth value is one exactly when it is true. -/
theorem ofBool_eq_one (b : Bool) : BitVec.ofBool b = 1#1 ↔ b = true := by cases b <;> decide

/-- `bitMask` holds exactly where the bit is clear. -/
theorem isMask_bitMask (h : Fits W) (hW : W ≤ 4096) (k : ℕ) (hk : 2 ^ k < 4096) (d : BitVec 32) (hd : d = BitVec.ofNat 32 (2 ^ k)) :
    IsMask (bitMask h d) (upb (2 ^ k)) := by
  intro l hl
  subst hd
  have e : bitMask h (BitVec.ofNat 32 (2 ^ k)) (ix2 0 ⟨l, hl⟩)
      = BitVec.ofBool ((BitVec.ofNat 32 (0 * W + l) &&& BitVec.ofNat 32 (2 ^ k)) == 0#32) := rfl
  have e' : ((BitVec.ofNat 32 (0 * W + l) &&& BitVec.ofNat 32 (2 ^ k)) = 0#32) ↔ l &&& 2 ^ k = 0 := by
    rw [← BitVec.toNat_inj, BitVec.toNat_and, BitVec.toNat_ofNat, BitVec.toNat_ofNat, BitVec.toNat_ofNat,
      Nat.mod_eq_of_lt (by omega), Nat.mod_eq_of_lt (by omega)]
    simp
  rw [e, upb, ← and_two_pow_eq_zero, ← e', ofBool_eq_one, beq_iff_eq]

/-- The direction of the last round is up on each of the 256 lanes. -/
theorem isMask_allUp : IsMask allUp (upb 256) := by
  intro l hl
  have e : allUp (ix2 0 ⟨l, hl⟩) = BitVec.ofBool ((0#32).sle (BitVec.ofNat 32 (0 * 256 + l))) := rfl
  have hu : upb 256 l := by unfold upb; omega
  have hs : (0#32).sle (BitVec.ofNat 32 (0 * 256 + l)) = true := by
    rw [BitVec.sle_eq_decide, decide_eq_true_iff, BitVec.toInt_eq_toNat_cond, BitVec.toInt_eq_toNat_cond, BitVec.toNat_ofNat,
      BitVec.toNat_ofNat]
    split <;> split <;> omega
  rw [e, hs]
  simp [hu]

/-- A row's mask on every row, element by element. -/
theorem onRows_apply (h : Fits W) (hW : W ≠ 1) (m : IVec (SL W) 1) (r : Fin 128) (l : ℕ) (hl : l < W) :
    onRows h m (ix2 r ⟨l, hl⟩) = m (ix2 0 ⟨l, hl⟩) := by
  unfold onRows
  rw [shapeCast_self]
  refine broadcastTo_apply m h.bc _ _ fun a => ?_
  match a with
  | ⟨0, _⟩ => rfl
  | ⟨1, _⟩ => exact (if_neg hW).symm

/-- The exchange, on a row: where `sw` holds the partners, it is one compare-exchange stage. -/
theorem isRow_exchange (h : Fits W) (hW1 : W ≠ 1) (hW : W ≤ 4096) {k : ℕ} (hk : 2 ^ k < 4096) {d : BitVec 32}
    (hd : d = BitVec.ofNat 32 (2 ^ k)) {up : IVec (SL W) 1} {upP : ℕ → Prop} [DecidablePred upP] (hup : IsMask up upP)
    {x sw : FVec Ideal (SX W) .bf16} {r : Fin 128} {a : ℕ → EReal} (hx : IsRow x r a)
    (hsw : IsRow sw r fun l => if l / 2 ^ k % 2 = 0 then a (l + 2 ^ k) else a (l - 2 ^ k)) :
    IsRow (exchange h d up x sw) r (cex (2 ^ k) upP a) := by
  intro l hl
  have e : exchange h d up x sw (ix2 r ⟨l, hl⟩)
      = if onRows h (xori (xori (bitMask h d) up) (constantI (SL W) 1 1#1)) (ix2 r ⟨l, hl⟩) = 1#1
        then min (x (ix2 r ⟨l, hl⟩) : EReal) (sw (ix2 r ⟨l, hl⟩)) else max (x (ix2 r ⟨l, hl⟩) : EReal) (sw (ix2 r ⟨l, hl⟩)) := rfl
  have em : xori (xori (bitMask h d) up) (constantI (SL W) 1 1#1) (ix2 0 ⟨l, hl⟩)
      = (bitMask h d (ix2 0 ⟨l, hl⟩) ^^^ up (ix2 0 ⟨l, hl⟩)) ^^^ 1#1 := rfl
  have hb := isMask_bitMask h hW k hk d hd l hl
  have hu := hup l hl
  rw [e, onRows_apply h hW1, em, hx l hl, hsw l hl]
  have two : ∀ v : BitVec 1, v = 0#1 ∨ v = 1#1 := by decide
  unfold cex
  unfold upb at hb
  rcases two (bitMask h d (ix2 0 ⟨l, hl⟩)) with h1 | h1 <;> rcases two (up (ix2 0 ⟨l, hl⟩)) with h2 | h2 <;>
    rw [h1] at hb <;> rw [h2] at hu <;> rw [h1, h2] <;> simp at hb hu <;> simp [hb, hu]

/-- A stage on a row is the compare-exchange at distance 2^k. -/
theorem isRow_stage (h : Fits W) (hW1 : W ≠ 1) (hW : W ≤ 4096) {k : ℕ} (hk : 2 ^ (k + 1) ≤ W) (hm : W % 2 ^ (k + 1) = 0)
    {up : IVec (SL W) 1} {upP : ℕ → Prop} [DecidablePred upP] (hup : IsMask up upP)
    {x : FVec Ideal (SX W) .bf16} {r : Fin 128} {a : ℕ → EReal} (hx : IsRow x r a) :
    IsRow (stage h (BitVec.ofNat 32 (2 ^ k)) (BitVec.ofNat 32 (W - 2 ^ k)) up x) r (cex (2 ^ k) upP a) := by
  have hp : 2 ^ (k + 1) = 2 * 2 ^ k := by ring
  have hk0 : 0 < 2 ^ k := by positivity
  refine isRow_exchange h hW1 hW (by omega) rfl hup hx fun l hl => ?_
  have hb := isMask_bitMask h hW k (by omega) _ rfl l hl
  unfold upb at hb
  have e : select (onRows h (bitMask h (BitVec.ofNat 32 (2 ^ k))))
      (dynamicRotate 1 (BitVec.ofNat 32 (W - 2 ^ k)) none x h.rot) (dynamicRotate 1 (BitVec.ofNat 32 (2 ^ k)) none x h.rot)
      (ix2 r ⟨l, hl⟩) = if onRows h (bitMask h (BitVec.ofNat 32 (2 ^ k))) (ix2 r ⟨l, hl⟩) = 1#1
        then dynamicRotate 1 (BitVec.ofNat 32 (W - 2 ^ k)) none x h.rot (ix2 r ⟨l, hl⟩)
        else dynamicRotate 1 (BitVec.ofNat 32 (2 ^ k)) none x h.rot (ix2 r ⟨l, hl⟩) := rfl
  rw [e, onRows_apply h hW1]
  beta_reduce
  by_cases hc : l / 2 ^ k % 2 = 0
  · rw [if_pos (hb.2 hc), if_pos hc]
    have hlt : l + 2 ^ k < W := by
      obtain ⟨q, hq⟩ := Nat.dvd_of_mod_eq_zero hm
      have h1 := Nat.div_add_mod l (2 ^ k)
      have h2 := Nat.mod_lt l hk0
      obtain ⟨p, hp'⟩ := Nat.dvd_of_mod_eq_zero hc
      rw [hp'] at h1
      have h3 : 2 ^ k * (2 * p) = 2 ^ (k + 1) * p := by rw [hp]; ring
      have h4 : p < q := by
        by_contra hge
        have := Nat.mul_le_mul_left (2 ^ (k + 1)) (not_lt.mp hge)
        omega
      have := Nat.mul_le_mul_left (2 ^ (k + 1)) (Nat.succ_le_of_lt h4)
      rw [Nat.mul_succ] at this
      omega
    rw [← hx (l + 2 ^ k) hlt]
    refine dynamicRotate_apply 1 _ x h.rot _ _ fun b => ?_
    match b with
    | ⟨0, _⟩ => rfl
    | ⟨1, _⟩ =>
      show l + 2 ^ k = (l + W - (BitVec.ofNat 32 (W - 2 ^ k)).toNat % W) % W
      rw [BitVec.toNat_ofNat, Nat.mod_eq_of_lt (show W - 2 ^ k < 2 ^ 32 by omega), Nat.mod_eq_of_lt (show W - 2 ^ k < W by omega),
        show l + W - (W - 2 ^ k) = l + 2 ^ k by omega, Nat.mod_eq_of_lt hlt]
  · rw [if_neg (fun hc' => hc (hb.1 hc')), if_neg hc]
    have hge : 2 ^ k ≤ l := by
      by_contra hlt
      exact hc (by rw [Nat.div_eq_of_lt (by omega)])
    rw [← hx (l - 2 ^ k) (by omega)]
    refine dynamicRotate_apply 1 _ x h.rot _ _ fun b => ?_
    match b with
    | ⟨0, _⟩ => rfl
    | ⟨1, _⟩ =>
      show l - 2 ^ k = (l + W - (BitVec.ofNat 32 (2 ^ k)).toNat % W) % W
      rw [BitVec.toNat_ofNat, Nat.mod_eq_of_lt (show 2 ^ k < 2 ^ 32 by omega), Nat.mod_eq_of_lt (show 2 ^ k < W by omega),
        show l + W - 2 ^ k = (l - 2 ^ k) + W by omega, Nat.add_mod_right, Nat.mod_eq_of_lt (by omega)]

/-- The stages at distances 2^(k-1), …, 1 on a row are the merge. -/
theorem isRow_mergeV (h : Fits W) (hW1 : W ≠ 1) (hW : W ≤ 4096) {up : IVec (SL W) 1} {upP : ℕ → Prop} [DecidablePred upP]
    (hup : IsMask up upP) {r : Fin 128} : ∀ (k : ℕ) (_ : 2 ^ k ≤ W) (_ : W % 2 ^ k = 0) {x : FVec Ideal (SX W) .bf16} {a : ℕ → EReal},
    IsRow x r a → IsRow (mergeV h k up x) r (merge k upP a)
  | 0, _, _, _, _, hx => hx
  | k + 1, hk, hm, _, _, hx =>
    isRow_mergeV h hW1 hW hup k (by have : 2 ^ (k + 1) = 2 * 2 ^ k := by ring
                                    omega)
      (by obtain ⟨q, hq⟩ := Nat.dvd_of_mod_eq_zero hm
          rw [hq, pow_succ, mul_assoc]; exact Nat.mul_mod_right _ _)
      (isRow_stage h hW1 hW hk hm hup hx)

/-- The stage at distance 128 on a row is the compare-exchange at 128. -/
theorem isRow_wide (h : Fits W) (hW : W ≤ 4096) {N : ℕ} (hw : Wide W N) (hN : N % 2 = 0) (hN0 : 0 < N) {up : IVec (SL W) 1}
    {upP : ℕ → Prop} [DecidablePred upP] (hup : IsMask up upP) {x : FVec Ideal (SX W) .bf16} {r : Fin 128} {a : ℕ → EReal}
    (hx : IsRow x r a) : IsRow (wide h hw up x) r (cex (2 ^ 7) upP a) := by
  have hwid := hw.width
  have hd : 128#32 = BitVec.ofNat 32 (2 ^ 7) := by decide
  have hk : 2 ^ 7 < 4096 := by decide
  unfold wide
  refine isRow_exchange (k := 7) h (by omega) hW hk hd hup hx ?_
  intro l hl
  have hlN : l / 128 < N := by omega
  have e := concatenate_ofFn_apply (t := SX W) (s₁ := SX 128) 1
    (fun p : Fin N => extractStridedSlice (SX 128) ![0, 128 * nb p] x (hw.slice p)) (hw.cat' _) rfl 128 rfl
    (ix2 r ⟨l, hl⟩) ⟨l / 128, hlN⟩ rfl (ix2 r ⟨l % 128, Nat.mod_lt _ (by decide)⟩) rfl (by
      intro b hb
      match b with
      | ⟨0, _⟩ => rfl
      | ⟨1, _⟩ => exact absurd rfl hb)
  refine e.trans ?_
  have hlt : 128 * nb (l / 128) + l % 128 < W := by unfold nb; split <;> omega
  have e2 : extractStridedSlice (SX 128) ![0, 128 * nb (l / 128)] x (hw.slice ⟨l / 128, hlN⟩)
      (ix2 r ⟨l % 128, Nat.mod_lt _ (by decide)⟩) = x (ix2 r ⟨128 * nb (l / 128) + l % 128, hlt⟩) :=
    extractStridedSlice_apply _ _ _ _ _ fun b => by
      match b with
      | ⟨0, _⟩ => exact (Nat.zero_add _).symm
      | ⟨1, _⟩ => rfl
  refine e2.trans ((hx _ hlt).trans ?_)
  show a (128 * nb (l / 128) + l % 128) = if l / 128 % 2 = 0 then a (l + 128) else a (l - 128)
  unfold nb
  split
  · exact congrArg a (by omega)
  · exact congrArg a (by omega)

/-- The eight stages on a row are the merge of 256 lanes. -/
theorem isRow_merge8 (h : Fits W) (hW : W ≤ 4096) {N : ℕ} (hw : Wide W N) (hN : N % 2 = 0) (hN0 : 0 < N) {up : IVec (SL W) 1}
    {upP : ℕ → Prop} [DecidablePred upP] (hup : IsMask up upP) {x : FVec Ideal (SX W) .bf16} {r : Fin 128} {a : ℕ → EReal}
    (hx : IsRow x r a) : IsRow (merge8 h hw up x) r (merge 8 upP a) := by
  have hwid := hw.width
  exact isRow_mergeV h (by omega) hW hup 7 (by omega) (by omega) (isRow_wide h hW hw hN hN0 hup hx)

/-- The smaller of the two halves, on a row. -/
theorem isRow_halveV {H : ℕ} (hWH : W = 2 * H) {x : FVec Ideal (SX W) .bf16} (h0 : (SX W).Slices ![0, 0] (SX H))
    (h1 : (SX W).Slices ![0, H] (SX H)) {r : Fin 128} {a : ℕ → EReal} (hx : IsRow x r a) : IsRow (halveV x h0 h1) r (halve H a) := by
  intro l hl
  have e0 : extractStridedSlice (SX H) ![0, 0] x h0 (ix2 r ⟨l, hl⟩) = x (ix2 r ⟨l, by omega⟩) :=
    extractStridedSlice_apply _ _ _ _ _ fun b => by
      match b with
      | ⟨0, _⟩ => exact (Nat.zero_add _).symm
      | ⟨1, _⟩ => exact (Nat.zero_add _).symm
  have e1 : extractStridedSlice (SX H) ![0, H] x h1 (ix2 r ⟨l, hl⟩) = x (ix2 r ⟨l + H, by omega⟩) :=
    extractStridedSlice_apply _ _ _ _ _ fun b => by
      match b with
      | ⟨0, _⟩ => exact (Nat.zero_add _).symm
      | ⟨1, _⟩ => exact Nat.add_comm _ _
  have e : halveV x h0 h1 (ix2 r ⟨l, hl⟩) = min (extractStridedSlice (SX H) ![0, 0] x h0 (ix2 r ⟨l, hl⟩) : EReal)
      (extractStridedSlice (SX H) ![0, H] x h1 (ix2 r ⟨l, hl⟩)) := rfl
  rw [e, e0, e1, hx l, hx (l + H)]
  rfl

/-- The first 36 stages on a row. -/
theorem isRow_runsV {x : FVec Ideal (SX 4096) .bf16} {r : Fin 128} {a : ℕ → EReal} (hx : IsRow x r a) :
    IsRow (runsV x) r (runs a) := by
  have m (k : ℕ) (hk : 2 ^ k < 4096) (d : BitVec 32) (hd : d = BitVec.ofNat 32 (2 ^ k)) :=
    isMask_bitMask fits4096 le_rfl k hk d hd
  have g (k : ℕ) (hk : 2 ^ k ≤ 4096) (hm : 4096 % 2 ^ k = 0) {up : IVec (SL 4096) 1} {upP : ℕ → Prop} [DecidablePred upP]
      (hup : IsMask up upP) {x : FVec Ideal (SX 4096) .bf16} {a : ℕ → EReal} (hx : IsRow x r a) :=
    isRow_mergeV fits4096 (by decide) le_rfl hup k hk hm hx
  exact isRow_merge8 fits4096 le_rfl wide4096 rfl (by decide) (m 11 (by decide) _ rfl)
    (g 7 (by decide) (by decide) (m 7 (by decide) _ rfl) (g 6 (by decide) (by decide) (m 6 (by decide) _ rfl)
    (g 5 (by decide) (by decide) (m 5 (by decide) _ rfl) (g 4 (by decide) (by decide) (m 4 (by decide) _ rfl)
    (g 3 (by decide) (by decide) (m 3 (by decide) _ rfl) (g 2 (by decide) (by decide) (m 2 (by decide) _ rfl)
    (g 1 (by decide) (by decide) (m 1 (by decide) _ rfl) hx)))))))

/-- The whole network, on a row: the selection of the 256 smallest in rising order (`Cert.Net.lt_top256_iff`). -/
theorem isRow_netV {x : FVec Ideal (SX 4096) .bf16} {r : Fin 128} {a : ℕ → EReal} (hx : IsRow x r a) :
    IsRow (netV x) r (top256 a) := by
  have r1 := isRow_merge8 fits2048 (by decide) wide2048 rfl (by decide)
    (isMask_bitMask fits2048 (by decide) 10 (by decide) _ rfl)
    (isRow_halveV (H := 2048) rfl (by decide) (by decide) (isRow_runsV hx))
  have r2 := isRow_merge8 fits1024 (by decide) wide1024 rfl (by decide)
    (isMask_bitMask fits1024 (by decide) 9 (by decide) _ rfl) (isRow_halveV (H := 1024) rfl (by decide) (by decide) r1)
  have r3 := isRow_merge8 fits512 (by decide) wide512 rfl (by decide)
    (isMask_bitMask fits512 (by decide) 8 (by decide) _ rfl) (isRow_halveV (H := 512) rfl (by decide) (by decide) r2)
  exact isRow_merge8 fits256 (by decide) wide256 rfl (by decide) isMask_allUp
    (isRow_halveV (H := 256) rfl (by decide) (by decide) r3)

end Cert.Stage

end
-- ==== Proof.Block.lean ====
/-
The block the kernel's body writes, as one term in the block of rows and the centroids: the same at every grid point, whether
the squared norms of the centroids are computed there or found in the scratch.
-/
module

public import proofs.«01_k».proof.Proof.Stage
public import proofs.«01_k».proof.Proof.Gen.KernelIdeal.Frame
public import Idealize.ShloMosaic.Lib.Pipeline.Value
public import Idealize.ShloMosaic.Lib.Tactic
public import Idealize.ShloMosaic.Lib.Pipeline.ValueKit.Acc

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F]

/-- What the body leaves in the output block, from the block `x` of rows, the centroids `C` and their squared norms `q`. -/
def blockOut (x : Vec F S128x1792 .f32) (C : Vec F S1792x4096 .f32) (q : Vec F S1x4096 .f32) : FVec F S128x256 .f32 :=
  sqrt (addf (broadcastTo S128x256 (addf (k0_pay4 x) (k0_pay6 x C q)) broadcasts_S128x1_S128x256)
    (extf .f32 (Stage.netV (k0_pay7 x C q)) bitsLt_bf16_f32))

/-- The first row of the scratch, which is what the body reads of it. -/
def csqRow (s : Vec F S8x4096 .f32) : Vec F S1x4096 .f32 :=
  View.ld s (Rect.unit (s := S8x4096) ![0, 0] S1x4096.size inb_S8x4096_S1x4096_0_0)

/-- At the first grid point the scratch is left with the squared norms of the centroids. -/
theorem sout_A (c : Dev nD) (i : grid0.Coords) (arg1 : Memref sig .tc .vmem S128x1792 .f32) (harg1 : arg1.IsWhole)
    (arg2 : Memref sig .tc .vmem S1792x4096 .f32) (harg2 : arg2.IsWhole) (arg3 : Memref sig .tc .vmem S128x256 .f32)
    (harg3 : arg3.IsWhole) (arg4 : Memref sig .tc .vmem S8x4096 .f32) (harg4 : arg4.IsWhole) (hc0 : cond0_0 i)
    (x0 : Vec F S128x1792 .f32) (x1 : Vec F S1792x4096 .f32) :
    sout0_A_0 c i arg1 harg1 arg2 harg2 arg3 harg3 arg4 harg4 hc0 x0 x1 = k0_pay2 x1 := by
  frame_out

/-- At a later grid point the output block is `blockOut` of the rows, the centroids and what the scratch holds. -/
theorem out_B (c : Dev nD) (i : grid0.Coords) (arg1 : Memref sig .tc .vmem S128x1792 .f32) (harg1 : arg1.IsWhole)
    (arg2 : Memref sig .tc .vmem S1792x4096 .f32) (harg2 : arg2.IsWhole) (arg3 : Memref sig .tc .vmem S128x256 .f32)
    (harg3 : arg3.IsWhole) (arg4 : Memref sig .tc .vmem S8x4096 .f32) (harg4 : arg4.IsWhole) (hc0 : ¬cond0_0 i)
    (x0 : Vec F S128x1792 .f32) (x1 : Vec F S1792x4096 .f32) (xs0 : Vec F S8x4096 .f32) :
    out0_B_2 c i arg1 harg1 arg2 harg2 arg3 harg3 arg4 harg4 hc0 x0 x1 xs0 = blockOut x0 x1 (csqRow xs0) := by
  frame_out
  sl_kernel_rfl

/-- The row read back after the scratch was filled. -/
theorem readRow (arg4 : Memref sig .tc .vmem S8x4096 .f32) (x1 : Vec F S1792x4096 .f32) :
    (arg4.view.readCov [⟨Rect.unit ![0, 0] ![8, 4096] inb_S8x4096_S8x4096_0_0, k0_pay2 x1⟩]
      (Rect.unit ![0, 0] ![1, 4096] inb_S8x4096_S1x4096_0_0).toLoadRect : Vec F S1x4096 .f32) = csqRow (k0_pay2 x1) := by
  rw [View.readCov_eq_canon_ld _ _ _ (View.cover_of_tiledL _ S8x4096.size (by sl_kernel_rfl)),
    View.canon_cons_unit_lit _ _ _ (by decide)]
  rfl

/-- At the first grid point the output block is `blockOut` of the rows, the centroids and the norms just computed. -/
theorem out_A (c : Dev nD) (i : grid0.Coords) (arg1 : Memref sig .tc .vmem S128x1792 .f32) (harg1 : arg1.IsWhole)
    (arg2 : Memref sig .tc .vmem S1792x4096 .f32) (harg2 : arg2.IsWhole) (arg3 : Memref sig .tc .vmem S128x256 .f32)
    (harg3 : arg3.IsWhole) (arg4 : Memref sig .tc .vmem S8x4096 .f32) (harg4 : arg4.IsWhole) (hc0 : cond0_0 i)
    (x0 : Vec F S128x1792 .f32) (x1 : Vec F S1792x4096 .f32) :
    out0_A_2 c i arg1 harg1 arg2 harg2 arg3 harg3 arg4 harg4 hc0 x0 x1 = blockOut x0 x1 (csqRow (k0_pay2 x1)) := by
  frame_out
  have hq := readRow arg4 x1
  have key : ∀ q : Vec F S1x4096 .f32, q = csqRow (k0_pay2 x1) → blockOut x0 x1 q = blockOut x0 x1 (csqRow (k0_pay2 x1)) :=
    fun q h => h ▸ rfl
  refine Eq.trans ?_ (key _ hq)
  sl_kernel_rfl

end Cert.KernelIdeal.Value

end
-- ==== Proof.Row.lean ====
/-
One element of the block the kernel's body writes, over the extended reals: `rowOut`, a function of one row of the first
operand and of the centroids.
-/
module

public import proofs.«01_k».proof.Proof.Block
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

/-- The squared norm of a row of features. -/
def sqNorm (p : Fin 1792 → EReal) : EReal := ∑ k, p k * p k

/-- The squared norm of centroid `j`. -/
def centNorm (C : FVec Ideal S1792x4096 .f32) (j : Fin 4096) : EReal := ∑ k : Fin 1792, C (ix2 k j) * C (ix2 k j)

/-- The inner product of a row of features with centroid `j`. -/
def inner (p : Fin 1792 → EReal) (C : FVec Ideal S1792x4096 .f32) (j : Fin 4096) : EReal :=
  ∑ k : Fin 1792, p k * C (ix2 k j)

/-- The key the kernel sorts by: the squared distance less the squared norm of the row. -/
def key (p : Fin 1792 → EReal) (C : FVec Ideal S1792x4096 .f32) (j : Fin 4096) : EReal :=
  centNorm C j - Ideal.ofBits .f32 0x40000000#32 * inner p C j

/-- The least key of a row. -/
def minKey (p : Fin 1792 → EReal) (C : FVec Ideal S1792x4096 .f32) : EReal :=
  (Finset.univ : Finset (Fin 4096)).fold min (Ideal.ofBits .f32 0x7F800000#32) (key p C)

/-- The keys above the least one, as a sequence. -/
def lift (p : Fin 1792 → EReal) (C : FVec Ideal S1792x4096 .f32) (j : ℕ) : EReal :=
  if h : j < 4096 then key p C ⟨j, h⟩ - minKey p C else 0

/-- What the kernel writes at place `l` of a row. -/
def rowOut (p : Fin 1792 → EReal) (C : FVec Ideal S1792x4096 .f32) (l : ℕ) : EReal :=
  Ideal.sqrt (sqNorm p + minKey p C + Net.top256 (lift p C) l)

variable (x : Vec Ideal S128x1792 .f32) (C : Vec Ideal S1792x4096 .f32) (q : Vec Ideal S1x4096 .f32)

/-- The scratch's first row holds the squared norms of the centroids. -/
theorem csqRow_apply (j : Fin 4096) : csqRow (k0_pay2 C) (ix2 0 j) = centNorm C j := by
  show k0_pay2 C ((Rect.unit (s := S8x4096) ![0, 0] S1x4096.size inb_S8x4096_S1x4096_0_0).emb (ix2 0 j)) = _
  have e : (Rect.unit (s := S8x4096) ![0, 0] S1x4096.size inb_S8x4096_S1x4096_0_0).emb (ix2 0 j) = ix2 (0 : Fin 8) j := by
    funext a; fin_cases a
    · rfl
    · apply Fin.ext; show 0 + 1 * j.val = j.val; omega
  rw [e]
  pointwise [k0_pay2, centNorm]

/-- The squared norm of the block's row `r`. -/
theorem pay4_apply (r : Fin 128) : k0_pay4 x (ix2 r 0) = sqNorm (fun k => x (ix2 r k)) := by
  pointwise [k0_pay4, k0_pay3, sqNorm]

/-- The keys of the block's row `r`. -/
theorem pay5_apply (r : Fin 128) (j : Fin 4096) : k0_pay5 x C (csqRow (k0_pay2 C)) (ix2 r j) = key (fun k => x (ix2 r k)) C j := by
  unfold key
  rw [← csqRow_apply]
  generalize csqRow (k0_pay2 C) = q
  pointwise [k0_pay5, k0_pay3, inner]

/-- The least key of the block's row `r`. -/
theorem pay6_apply (r : Fin 128) : k0_pay6 x C (csqRow (k0_pay2 C)) (ix2 r 0) = minKey (fun k => x (ix2 r k)) C := by
  unfold minKey
  have h := pay5_apply x C r
  unfold k0_pay6
  generalize k0_pay5 x C (csqRow (k0_pay2 C)) = z at h
  rw [show key (fun k => x (ix2 r k)) C = fun j => z (ix2 r j) from funext fun j => (h j).symm]
  pointwise

/-- The row that enters the network. -/
theorem pay7_isRow (r : Fin 128) : Stage.IsRow (k0_pay7 x C (csqRow (k0_pay2 C))) r (lift (fun k => x (ix2 r k)) C) := by
  intro l hl
  have h5 := pay5_apply x C r ⟨l, hl⟩
  have h6 := pay6_apply x C r
  unfold lift
  rw [dif_pos hl]
  unfold k0_pay7
  rw [← h5, ← h6]
  generalize k0_pay5 x C (csqRow (k0_pay2 C)) = z
  generalize k0_pay6 x C (csqRow (k0_pay2 C)) = w
  pointwise
  rfl

/-- One element of the block the body writes. -/
theorem blockOut_apply (r : Fin 128) (l : Fin 256) :
    blockOut x C (csqRow (k0_pay2 C)) (ix2 r l) = rowOut (fun k => x (ix2 r k)) C l.val := by
  have h4 := pay4_apply x r
  have h6 := pay6_apply x C r
  have h7 := Stage.isRow_netV (pay7_isRow x C r) l.val l.isLt
  unfold rowOut blockOut
  rw [← h4, ← h6, ← h7]
  generalize k0_pay4 x = y
  generalize k0_pay6 x C (csqRow (k0_pay2 C)) = w
  generalize Stage.netV (k0_pay7 x C (csqRow (k0_pay2 C))) = z
  pointwise
  all_goals rfl

end Cert.KernelIdeal.Value

end
-- ==== Proof.Launched.lean ====
/-
What the launch leaves in its result array, over the extended reals: row `n` is `rowOut` of row `n` of the first operand.
-/
module

public import proofs.«01_k».proof.Proof.Row

@[expose] public section

set_option maxRecDepth 16384

noncomputable section

namespace Cert.KernelIdeal.Value

open Idealize.ShloMosaic Idealize.ShloMosaic.TcCoe Idealize.SL.Sem
open Cert.KernelIdeal Cert.KernelIdeal.Gen
open Idealize.ShloMosaic.Pipeline (Dat)

section
variable {F : FTy → Type} [FloatOps F] (m : (ℓ : Loc nD τ sig) → Buf (Elt F) ℓ) (c : Dev nD)

/-- The block of centroids is the whole array of centroids at every grid point. -/
theorem iblk_cent (t : Fin cfg0.N) : (iblk m c 1 t : Vec F S1792x4096 .f32) = m ((c : Thread nD τ).loc main_arg11) := by
  funext j
  unfold iblk
  rw [View.read_apply]
  refine Eq.trans ?_ (congrFun (V_main_arg11 m c) j)
  show V m c main_arg11 _ = V m c main_arg11 j
  congr 1
  funext a
  apply Fin.ext
  match a with
  | ⟨0, _⟩ => show 0 * 1792 + 1 * (j 0).val = (j 0).val; omega
  | ⟨1, _⟩ => show 0 * 4096 + 1 * (j 1).val = (j 1).val; omega

/-- After every grid point the scratch holds the squared norms of the centroids and the output block is `blockOut`. -/
theorem outs_eq : ∀ (n : ℕ) (h : n < cfg0.N),
    outsAt0 m c n h = (blockOut (iblk m c 0 ⟨n, h⟩) (m ((c : Thread nD τ).loc main_arg11))
      (csqRow (k0_pay2 (m ((c : Thread nD τ).loc main_arg11)))), k0_pay2 (m ((c : Thread nD τ).loc main_arg11)))
  | 0, h => by
    refine (outsAt0_A m c ⟨0, h⟩ rfl).trans ?_
    rw [out_A, sout_A, iblk_cent]
  | n + 1, h => by
    have hN : cfg0.N = 64 := N_0
    have hB : ¬(⟨n + 1, h⟩ : Fin cfg0.N).val % 64 = 0 := by dsimp only; omega
    have ih := outs_eq n (Nat.lt_of_succ_lt h)
    refine (outsAt0_B m c ⟨n + 1, h⟩ hB).trans ?_
    have e : (outsAt0 m c ((⟨n + 1, h⟩ : Fin cfg0.N).val - 1) (Nat.lt_of_le_of_lt (Nat.sub_le _ _) h)).2
        = k0_pay2 (m ((c : Thread nD τ).loc main_arg11)) := by
      show (outsAt0 m c n _).2 = _
      rw [ih]
    rw [out_B, e, iblk_cent]
    rfl
end

variable (m : (ℓ : Loc nD τ sig) → Buf (Elt Ideal) ℓ) (c : Dev nD)

/-- The launch's first operand. -/
abbrev feats : FVec Ideal S8192x1792 .f32 := V m c main_v198

/-- The centroids. -/
abbrev cents : FVec Ideal S1792x4096 .f32 := m ((c : Thread nD τ).loc main_arg11)

/-- The launch's result array. -/
def result : FVec Ideal S8192x256 .f32 := fun i => rowOut (fun k => feats m c (ix2 (i 0) k)) (cents m c) (i 1).val

/-- Where the output's window sits at a grid point. -/
theorem index_out (t : Fin cfg0.N) : win0_2.index t 0 = t.val ∧ win0_2.index t 1 = 0 ∧ win0_0.index t 0 = t.val ∧ win0_0.index t 1 = 0 :=
  (by decide +kernel : ∀ t : Fin cfg0.N, win0_2.index t 0 = t.val ∧ win0_2.index t 1 = 0 ∧ win0_0.index t 0 = t.val ∧ win0_0.index t 1 = 0) t

/-- Where the rows' window reads its array. -/
theorem read_feats (t : Fin cfg0.N) (A : FVec Ideal S8192x1792 .f32) (r : Fin 128) (k : Fin 1792) (n : Fin 8192)
    (hn : n.val = t.val * 128 + r.val) : (((cfg0.win 0).blk t).view.read (Elt Ideal) A : Vec Ideal S128x1792 .f32) (ix2 r k) = A (ix2 n k) := by
  obtain ⟨-, -, h0, h1⟩ := index_out t
  rw [View.read_apply]
  refine congrArg A (funext fun a => Fin.ext ?_)
  match a with
  | ⟨0, _⟩ => show win0_0.index t 0 * 128 + 1 * r.val = n.val; rw [h0, hn]; omega
  | ⟨1, _⟩ => show win0_0.index t 1 * 1792 + 1 * k.val = k.val; rw [h1]; omega

/-- Where the output's window reads its array. -/
theorem read_out (t : Fin cfg0.N) (A : FVec Ideal S8192x256 .f32) (r : Fin 128) (l : Fin 256) (n : Fin 8192)
    (hn : n.val = t.val * 128 + r.val) : (((cfg0.win 2).blk t).view.read (Elt Ideal) A : Vec Ideal S128x256 .f32) (ix2 r l) = A (ix2 n l) := by
  obtain ⟨h0, h1, -, -⟩ := index_out t
  rw [View.read_apply]
  refine congrArg A (funext fun a => Fin.ext ?_)
  match a with
  | ⟨0, _⟩ => show win0_2.index t 0 * 128 + 1 * r.val = n.val; rw [h0, hn]; omega
  | ⟨1, _⟩ => show win0_2.index t 1 * 256 + 1 * l.val = l.val; rw [h1]; omega

/-- One element of the block of rows at a grid point. -/
theorem iblk_feats (t : Fin cfg0.N) (r : Fin 128) (k : Fin 1792) (n : Fin 8192) (hn : n.val = t.val * 128 + r.val) :
    (iblk m c 0 t : Vec Ideal S128x1792 .f32) (ix2 r k) = feats m c (ix2 n k) := by
  exact read_feats t (feats m c) r k n hn

/-- What each grid point writes back is its block of the result. -/
theorem flushed_eq (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2, outs_eq]
  funext j
  obtain ⟨r, l, rfl⟩ : ∃ (r : Fin 128) (l : Fin 256), j = ix2 r l := ⟨_, _, eq_ix2 j⟩
  have hlt : t.val * 128 + r.val < 8192 := by
    have hN : cfg0.N = 64 := N_0
    have := t.isLt; omega
  refine Eq.trans ?_ (read_out t (result m c) r l ⟨t.val * 128 + r.val, hlt⟩ rfl).symm
  refine (blockOut_apply (iblk m c 0 t) (cents m c) r l).trans ?_
  exact congrArg (rowOut · (cents m c) l.val) (funext fun k => iblk_feats m c t r k _ rfl)

/-- The result array after the launch. -/
theorem final_o : (dats m 0 c).arrAt 2 cfg0.N = result m c :=
  (dats m 0 c).arrAt_eq_of_cover 2 (result m c) (flushed_eq m c) fun i => by
    have i0 : (i 0 : Nat) < 8192 := (i 0).isLt
    have i1 : (i 1 : Nat) < 256 := (i 1).isLt
    have hN : cfg0.N = 64 := N_0
    let t : Fin cfg0.N := ⟨(i 0 : Nat) / 128, by omega⟩
    obtain ⟨h0, h1, -, -⟩ := index_out t
    refine ⟨t, flush0_2 t, ?_⟩
    show i ∈ ((View.whole main_v199).slice (win0_2.rect t)).set
    rw [View.set_slice_whole, Rect.mem_set_unit]
    intro a
    match a with
    | ⟨0, _⟩ => show win0_2.index t 0 * 128 ≤ (i 0 : Nat) ∧ (i 0 : Nat) < win0_2.index t 0 * 128 + 128
                rw [h0]; show (i 0 : Nat) / 128 * 128 ≤ _ ∧ _ < (i 0 : Nat) / 128 * 128 + 128; omega
    | ⟨1, _⟩ => show win0_2.index t 1 * 256 ≤ (i 1 : Nat) ∧ (i 1 : Nat) < win0_2.index t 1 * 256 + 256
                rw [h1]; omega

end Cert.KernelIdeal.Value

end
-- ==== Proof.Results.lean ====
/-
What the kernel's two results hold after @main, over the extended reals.
-/
module

public import proofs.«01_k».proof.Proof.Launched

@[expose] public section

set_option maxRecDepth 16384

noncomputable section

namespace Cert.KernelIdeal.Value

open Idealize.ShloMosaic Idealize.ShloMosaic.TcCoe Idealize.SL.Sem
open Cert.KernelIdeal Cert.KernelIdeal.Gen
open Idealize.ShloMosaic.Pipeline (Dat)

/-- The scores: the first 200 columns of the launch's result, one image a pixel's place in the sorted list. -/
def scores (R : FVec Ideal S8192x256 .f32) : FVec Ideal S2x200x64x64 .f32 :=
  transpose S2x200x64x64 [0, 3, 1, 2] (shapeCast S2x64x64x200 (extractStridedSlice S8192x200 ![0, 0] R
    slices_S8192x256_S8192x200_0_0) shapeCasts_S8192x200_S2x64x64x200) transposes_S2x64x64x200_S2x200x64x64_0_3_1_2

/-- The first half of the descriptor's channels. -/
def half (P : FVec Ideal S2x1792x64x64 .f32) : FVec Ideal S2x896x64x64 .f32 :=
  extractStridedSlice S2x896x64x64 ![0, 0, 0, 0] P slices_S2x1792x64x64_S2x896x64x64_0_0_0_0

/-- The operations after the launch, from any contents: the scores. -/
theorem tail_v202 (W : Valuation τ sig (Elt Ideal)) :
    StableHlo.after hostOps1 W (Proc.devRef .tc main_v202) = scores (W (Proc.devRef .tc main_v199)) := by
  unfold hostOps1
  after_results_simp
  rfl

/-- The operations after the launch, from any contents: half the descriptor. -/
theorem tail_v203 (W : Valuation τ sig (Elt Ideal)) :
    StableHlo.after hostOps1 W (Proc.devRef .tc main_v203) = half (W (Proc.devRef .tc main_v195)) := by
  unfold hostOps1
  after_results_simp
  rfl

variable (m : (ℓ : Loc nD τ sig) → Buf (Elt Ideal) ℓ) (ρ : Dev nD → PrngReg) (c : Dev nD)

/-- What the first result holds at the end. -/
theorem W_v202 : Pipeline.afterTail₀ cfgs (dats m) 0 (V0 m) [hostOps1] c main_v202 = scores (result m c) := by
  unfold Pipeline.afterTail₀
  rw [List.flatten_singleton, tail_v202]
  refine congrArg scores ?_
  exact (Pipeline.withArrays_arr spec0 (by decide) c (V0 m c) (fun w => (dats m 0 c).arrAt w cfg0.N) 2).trans (final_o m c)

/-- What the second result holds at the end. -/
theorem W_v203 : Pipeline.afterTail₀ cfgs (dats m) 0 (V0 m) [hostOps1] c main_v203 = half (V m c main_v195) := by
  unfold Pipeline.afterTail₀
  rw [List.flatten_singleton, tail_v203]
  refine congrArg half ?_
  exact Pipeline.withArrays_of_ne _ c (V0 m c) _ main_v195 (by exact (by decide : ∀ w, Pipeline.arrRef spec0 w ≠ main_v195))

/-- Every execution of @main ends with the two results at these values. -/
theorem run_results : θ_run defs (onTc (τ := τ) (main (F := Ideal))) ⟨m, fun _ => 0, ρ⟩ (fun r => ∀ c : Dev nD,
    r.2.mem ((c.tc : Thread nD τ).loc main_v202) = scores (result m c)
    ∧ r.2.mem ((c.tc : Thread nD τ).loc main_v203) = half (V m c main_v195)) :=
  (θ_run defs _ _).mono (fun _ h c =>
    ⟨((h c).2 main_v202 (Pipeline.mem_restRefs_of main_v202 (by decide) (by decide))).trans (W_v202 m c),
      ((h c).2 main_v203 (Pipeline.mem_restRefs_of main_v203 (by decide) (by decide))).trans (W_v203 m c)⟩) (run_main m ρ)

end Cert.KernelIdeal.Value

end
-- ==== Proof.TopK.lean ====
/-
The order statistics both programs compute: the selection network's and the reference's sort, compared by counting.
-/
module

public import proofs.«01_k».proof.Proof.Gen.ReferenceIdeal
public import proofs.«01_k».proof.Proof.Net
public import Idealize.ShloMosaic.Lib.SortFacts
public import Idealize.ShloMosaic.Lib.Pointwise

@[expose] public section

set_option maxRecDepth 16384

noncomputable section

namespace Cert.TopK

open Idealize.ShloMosaic

/-- In a sequence sorted by a permutation, the entry at place `l` is above `t` exactly when at most `l` entries are not. -/
theorem lt_sorted_iff {α : Type} [LinearOrder α] {n : ℕ} {d : Fin n → α} {σ : Fin n → Fin n} (hσ : Function.Bijective σ)
    (hm : Monotone fun l => d (σ l)) (t : α) (l : Fin n) :
    t < d (σ l) ↔ (Finset.univ.filter fun j => d j ≤ t).card ≤ l.val := by
  have e : (Finset.univ.filter fun j => d j ≤ t).card = (Finset.univ.filter fun i => d (σ i) ≤ t).card := by
    refine (Finset.card_bij (fun i _ => σ i) ?_ (fun _ _ _ _ h => hσ.1 h) ?_).symm
    · intro i hi
      simpa using hi
    · intro j hj
      obtain ⟨i, rfl⟩ := hσ.2 j
      exact ⟨i, by simpa using hj, rfl⟩
  rw [e]
  constructor
  · intro h
    have hs : (Finset.univ.filter fun i => d (σ i) ≤ t) ⊆ Finset.Iio l := by
      intro i hi
      rw [Finset.mem_filter] at hi
      rw [Finset.mem_Iio]
      by_contra hl
      exact absurd (h.trans_le ((hm (not_lt.1 hl)).trans hi.2)) (lt_irrefl _)
    simpa using Finset.card_le_card hs
  · intro h
    by_contra ht
    have hs : Finset.Iic l ⊆ Finset.univ.filter fun i => d (σ i) ≤ t := by
      intro i hi
      rw [Finset.mem_Iic] at hi
      rw [Finset.mem_filter]
      exact ⟨Finset.mem_univ _, (hm hi).trans (not_lt.1 ht)⟩
    have := Finset.card_le_card hs
    rw [Fin.card_Iic] at this
    omega

/-- Two permutations that sort the same sequence give the same sorted sequence. -/
theorem sorted_unique {α : Type} [LinearOrder α] {n : ℕ} {d : Fin n → α} {σ τ : Fin n → Fin n} (hσ : Function.Bijective σ)
    (hτ : Function.Bijective τ) (hdσ : Monotone fun l => d (σ l)) (hdτ : Monotone fun l => d (τ l)) (l : Fin n) :
    d (σ l) = d (τ l) :=
  eq_of_forall_lt_iff fun t => (lt_sorted_iff hσ hdσ t l).trans (lt_sorted_iff hτ hdτ t l).symm

/-- Sorting from the greatest down leaves no smaller value before a greater one. -/
theorem antitone_sortedFrom {α : Type} [LinearOrder α] {n : ℕ} (z : Fin n → α) :
    Antitone fun l => z (sortedFrom (fun k k' => decide (z k' < z k)) l) := by
  intro i j hij
  rcases hij.eq_or_lt with rfl | hij
  · exact le_rfl
  have := sortedFrom_noInversion (fun k k' => decide (z k' < z k)) (fun k k' => decide (z k' < z k)) (fun a b h => ?_)
    (fun _ _ h => h) (fun a b c h₁ h₂ => ?_) i j hij
  · simpa using this
  · simp only [decide_eq_true_eq, decide_eq_false_iff_not, not_lt] at h ⊢
    exact h.le
  · simp only [decide_eq_false_iff_not, not_lt] at h₁ h₂ ⊢
    exact h₁.trans h₂

/-- Every sequence is sorted by some permutation. -/
theorem exists_sort {α : Type} [LinearOrder α] {n : ℕ} (e : Fin n → α) :
    ∃ τ : Fin n → Fin n, Function.Bijective τ ∧ Monotone fun l => e (τ l) :=
  ⟨_, ⟨sortedFrom_injective _, sortedFrom_surjective _⟩, fun _ _ h => antitone_sortedFrom (fun j => OrderDual.toDual (e j)) h⟩

/-- A monotone function of the network's `l`-th smallest value is the `l`-th smallest of the function's values, in whatever
    way those are sorted. -/
theorem top256_sorted {e : Fin 4096 → EReal} {a : ℕ → EReal} (ha : ∀ j : Fin 4096, a j.val = e j) {g : EReal → EReal}
    (hg : Monotone g) {σ : Fin 4096 → Fin 4096} (hσ : Function.Bijective σ) (hm : Monotone fun l => g (e (σ l))) (l : Fin 4096)
    (hl : l.val < 256) : g (Net.top256 a l.val) = g (e (σ l)) := by
  obtain ⟨τ, hbτ, hτ⟩ := exists_sort e
  have h0 : Net.top256 a l.val = e (τ l) := eq_of_forall_lt_iff fun t => by
    rw [Net.lt_top256_iff a t hl, lt_sorted_iff hbτ hτ t l]
    have hc : ((Finset.range 4096).filter fun j => a j ≤ t).card = (Finset.univ.filter fun j : Fin 4096 => e j ≤ t).card := by
      refine (Finset.card_bij (fun j _ => j.val) ?_ (fun _ _ _ _ h => Fin.ext h) ?_).symm
      · intro j hj
        rw [Finset.mem_filter] at hj ⊢
        exact ⟨Finset.mem_range.2 j.isLt, (ha j).trans_le hj.2⟩
      · intro j hj
        rw [Finset.mem_filter, Finset.mem_range] at hj
        exact ⟨⟨j, hj.1⟩, Finset.mem_filter.2 ⟨Finset.mem_univ _, (ha ⟨j, hj.1⟩).symm.trans_le hj.2⟩, rfl⟩
    rw [hc]
  rw [h0]
  exact sorted_unique (d := fun j => g (e j)) hbτ hσ (fun _ _ h => hg (hτ h)) hm l

/-- An element of `top_k`'s values, read off the sorted row. -/
theorem topK_apply {s t : Shape} {α : Type} (a : Fin s.rank) (gt : α → α → BitVec 1) (x : s.Idx → α)
    (h : s.Slices (fun _ => 0) t) (j : t.Idx) (j' : s.Idx) (hj : ∀ b, (j' b).val = (j (b.cast h.1.symm)).val) :
    (Host.topK t a.val gt x h).1 j
      = x (j'.along a (sortedFrom (fun k k' => gt (x (j'.along a k)) (x (j'.along a k')) == 1#1) (j' a))) := by
  have e : (fun b => ⟨0 + (j (b.cast h.1.symm)).val, Nat.lt_of_lt_of_le (Nat.add_lt_add_left (j _).isLt _) (h.2 b)⟩ : s.Idx) = j' :=
    funext fun b => Fin.ext ((Nat.zero_add _).trans (hj b).symm)
  unfold Host.topK extractStridedSlice
  dsimp only
  rw [e]
  unfold Host.sort2
  rw [dif_pos a.isLt]

open Cert.ReferenceIdeal in
/-- The reference's `top_k` along the last axis: some permutation lists the 4096 values of a row from the greatest down, and the
    results are the first 200 of them. -/
theorem topK_sorted (z : FVec Ideal S2x4096x4096 .f32) (h : S2x4096x4096.Slices (fun _ => 0) S2x4096x200) (b : Fin 2)
    (n : Fin 4096) : ∃ σ : Fin 4096 → Fin 4096, Function.Bijective σ
      ∧ (Antitone fun l => z (ValueIdx.ix3 b n (σ l)))
      ∧ ∀ (l : Fin 200) (l' : Fin 4096), l'.val = l.val →
          (Host.topK S2x4096x200 2 (FloatOps.cmpfTotal (F := Ideal) .gt) z h).1 (ValueIdx.ix3 b n l)
            = z (ValueIdx.ix3 b n (σ l')) := by
  refine ⟨_, ⟨sortedFrom_injective _, sortedFrom_surjective _⟩, antitone_sortedFrom fun k => z (ValueIdx.ix3 b n k), ?_⟩
  intro l l' hl
  have hal : ∀ k : Fin 4096, Shape.Idx.along (s := S2x4096x4096) (ValueIdx.ix3 b n l') 2 k = ValueIdx.ix3 b n k := by
    intro k; funext a; fin_cases a <;> rfl
  refine (topK_apply (s := S2x4096x4096) 2 (FloatOps.cmpfTotal (F := Ideal) .gt) z h (ValueIdx.ix3 b n l)
    (ValueIdx.ix3 b n l') fun a => ?_).trans ?_
  · fin_cases a
    · rfl
    · rfl
    · exact hl
  · have hR : (fun k k' : Fin 4096 => (FloatOps.cmpfTotal (F := Ideal) .gt (z (Shape.Idx.along (s := S2x4096x4096) (ValueIdx.ix3 b n l') 2 k))
        (z (Shape.Idx.along (s := S2x4096x4096) (ValueIdx.ix3 b n l') 2 k')) == 1#1))
        = fun k k' => decide (z (ValueIdx.ix3 b n k') < z (ValueIdx.ix3 b n k)) := by
      funext k k'
      rw [hal, hal]
      show (BitVec.ofBool (decide (_ < _)) == 1#1) = _
      cases decide (z (ValueIdx.ix3 b n k') < z (ValueIdx.ix3 b n k)) <;> rfl
    refine congrArg z ((hal _).trans ?_)
    refine congrArg (ValueIdx.ix3 b n) ?_
    exact congrArg (fun R => sortedFrom R l') hR

end Cert.TopK

end
-- ==== Proof.Real.lean ====
/-
Which values are real numbers. An array over the extended reals is `AllReal` when none of its elements is infinite; every
operation of the descriptor keeps this, so with finite inputs the descriptor is real everywhere.
-/
module

public import proofs.«01_k».proof.Proof.Gen.ReferenceIdeal
public import proofs.«01_k».proof.Proof.Gen.ReferenceIdeal.Read
public import Idealize.ShloMosaic.Lib.Pointwise

@[expose] public section

set_option maxRecDepth 16384

noncomputable section

namespace Cert.Finite

open Idealize.ShloMosaic

/-- The extended real is a real number. -/
def IsReal (x : EReal) : Prop := ∃ r : ℝ, x = r

/-- A real number is real. -/
theorem isReal_coe (r : ℝ) : IsReal (r : EReal) := ⟨r, rfl⟩

/-- Zero is real. -/
theorem isReal_zero : IsReal (0 : EReal) := ⟨0, rfl⟩

/-- A sum of two reals is real. -/
theorem IsReal.add {x y : EReal} : IsReal x → IsReal y → IsReal (x + y) := by
  rintro ⟨a, rfl⟩ ⟨b, rfl⟩; exact ⟨a + b, (EReal.coe_add a b).symm⟩

/-- A difference of two reals is real. -/
theorem IsReal.sub {x y : EReal} : IsReal x → IsReal y → IsReal (x - y) := by
  rintro ⟨a, rfl⟩ ⟨b, rfl⟩; exact ⟨a - b, (EReal.coe_sub a b).symm⟩

/-- A product of two reals is real. -/
theorem IsReal.mul {x y : EReal} : IsReal x → IsReal y → IsReal (x * y) := by
  rintro ⟨a, rfl⟩ ⟨b, rfl⟩; exact ⟨a * b, (EReal.coe_mul a b).symm⟩

/-- The negative of a real is real. -/
theorem IsReal.neg {x : EReal} : IsReal x → IsReal (-x) := by
  rintro ⟨a, rfl⟩; exact ⟨-a, (EReal.coe_neg a).symm⟩

/-- The larger of two reals is real. -/
theorem IsReal.max {x y : EReal} (hx : IsReal x) (hy : IsReal y) : IsReal (max x y) := by
  rcases max_choice x y with h | h <;> rw [h] <;> assumption

/-- A finite sum of reals is real. -/
theorem IsReal.sum {ι : Type*} {s : Finset ι} {f : ι → EReal} (h : ∀ i ∈ s, IsReal (f i)) : IsReal (∑ i ∈ s, f i) :=
  Finset.sum_induction f IsReal (fun _ _ => IsReal.add) isReal_zero h

/-- A quotient of a real number by anything but zero is real: the inverse of an infinity is zero. -/
theorem IsReal.div {x y : EReal} (hx : IsReal x) (hy : y ≠ 0) : IsReal (Ideal.div x y) := by
  rw [Ideal.div, if_neg hy]
  refine hx.mul ?_
  induction y with
  | bot => exact ⟨0, by simp⟩
  | top => exact ⟨0, by simp⟩
  | coe r => exact ⟨r⁻¹, (EReal.coe_inv r).symm⟩

/-- Every element is a real number. -/
def AllReal {s : Shape} (x : s.Idx → EReal) : Prop := ∀ i, IsReal (x i)

/-- No element is zero. -/
def NeverZero {s : Shape} (x : s.Idx → EReal) : Prop := ∀ i, x i ≠ 0

section Ops
variable {s t u : Shape} {x y : FVec Ideal s .f32}

/-- A constant array of a real is real. -/
theorem allReal_constant {b : BitVec 32} {r : ℝ} (h : Ideal.ofBits .f32 b = r) : AllReal (s := s) (constant (F := Ideal) s .f32 b) :=
  fun _ => ⟨r, h⟩

/-- Integers, converted, are real. -/
theorem allReal_sitofp {w : ℕ} (v : IVec s w) : AllReal (sitofp (F := Ideal) .f32 v) := fun i => isReal_coe _

/-- Sums of real arrays are real. -/
theorem AllReal.addf (hx : AllReal x) (hy : AllReal y) : AllReal (addf x y) := fun i => (hx i).add (hy i)

/-- Differences of real arrays are real. -/
theorem AllReal.subf (hx : AllReal x) (hy : AllReal y) : AllReal (subf x y) := fun i => (hx i).sub (hy i)

/-- Products of real arrays are real. -/
theorem AllReal.mulf (hx : AllReal x) (hy : AllReal y) : AllReal (mulf x y) := fun i => (hx i).mul (hy i)

/-- The larger of two real arrays, element by element, is real. -/
theorem AllReal.maximumf (hx : AllReal x) (hy : AllReal y) : AllReal (maximumf x y) := fun i => (hx i).max (hy i)

/-- Absolute values of a real array are real. -/
theorem AllReal.absf (hx : AllReal x) : AllReal (Host.absf x) := fun i => (hx i).max (hx i).neg

/-- A real array divided by real numbers that are not zero is real. -/
theorem AllReal.divf (hx : AllReal x) (hy : NeverZero y) : AllReal (Host.divf x y) := fun i => (hx i).div (hy i)

/-- A choice between two real arrays is real. -/
theorem AllReal.select (c : IVec s 1) (hx : AllReal x) (hy : AllReal y) : AllReal (select c x y) := fun i => by
  show IsReal (if _ then _ else _)
  split
  · exact hx i
  · exact hy i

/-- A real array, broadcast, is real. -/
theorem AllReal.broadcastInDim {dims : Fin s.rank → Fin t.rank} {h : s.BroadcastsInDim t dims} (hx : AllReal x) :
    AllReal (broadcastInDim t dims h x) := fun _ => hx _

/-- A real array, reshaped, is real. -/
theorem AllReal.shapeCast {h : s.ShapeCasts t} (hx : AllReal x) : AllReal (shapeCast t x h) := fun _ => hx _

/-- A real array, transposed, is real. -/
theorem AllReal.transpose {perm : List (Fin s.rank)} {h : s.Transposes perm t} (hx : AllReal x) :
    AllReal (transpose t perm x h) := fun _ => hx _

/-- Sums of a real array along some axes are real. -/
theorem AllReal.reduceAdd {axes : List (Fin s.rank)} {init : u.Idx → Ideal .f32} {h : s.ReducesTo axes t} {hu : 0 < u.numel}
    (hx : AllReal x) (hi : AllReal init) : AllReal (Host.reduceAdd x init h hu) := fun j =>
  (hi _).add (.sum fun i _ => hx i)

/-- Sums of a real array over windows are real. -/
theorem AllReal.reduceWindowAdd {window strides lo hi : Fin s.rank → ℕ} {init : u.Idx → Ideal .f32}
    {h : s.ReduceWindows window strides lo hi t} {hu : 0 < u.numel} (hx : AllReal x) (h0 : AllReal init) :
    AllReal (Host.reduceWindowAdd window strides lo hi x init h hu) := fun j => by
  show IsReal (List.foldl _ _ _)
  refine List.foldlRecOn _ _ (motive := IsReal) (h0 _) fun r hr n _ => hr.add ?_
  split
  · exact hx _
  · exact h0 _

/-- Contractions of two real arrays are real. -/
theorem AllReal.dotGeneral {d : DotDims s t u} {prec : Option ContractPrecision} {y : FVec Ideal t .f32} (hx : AllReal x)
    (hy : AllReal y) : AllReal (Host.dotGeneral d prec x y) := fun j =>
  isReal_zero.add (.sum fun k _ => (hx _).mul (hy _))

/-- Two real arrays side by side are real. -/
theorem AllReal.concatenate {s₁ s₂ s₃ : Shape} {a : Fin t.rank} {x : s₁.Idx → EReal} {y : s₂.Idx → EReal} {z : s₃.Idx → EReal}
    {h : Shape.Concatenates _ t a} (hx : AllReal x) (hy : AllReal y) (hz : AllReal z) :
    AllReal (concatenate t a [⟨s₁, x⟩, ⟨s₂, y⟩, ⟨s₃, z⟩] h) := fun j =>
  concatenate_forall t a _ h (P := IsReal) (by
    intro p hp
    simp only [List.mem_cons, List.not_mem_nil, or_false] at hp
    rcases hp with rfl | rfl | rfl
    · exact hx
    · exact hy
    · exact hz) j

/-- A constant array of a real that is not zero is never zero. -/
theorem neverZero_constant {b : BitVec 32} {r : ℝ} (h : Ideal.ofBits .f32 b = r) (hr : r ≠ 0) :
    NeverZero (s := s) (constant (F := Ideal) s .f32 b) := fun _ => by
  show Ideal.ofBits .f32 b ≠ 0
  rw [h]; exact_mod_cast hr

/-- An array that is never zero, broadcast, is never zero. -/
theorem NeverZero.broadcastInDim {dims : Fin s.rank → Fin t.rank} {h : s.BroadcastsInDim t dims} (hx : NeverZero x) :
    NeverZero (broadcastInDim t dims h x) := fun _ => hx _

/-- A selection of a value where it differs from zero, and of a nonzero value elsewhere, is never zero. -/
theorem neverZero_select {z w : FVec Ideal s .f32} (hz : ∀ i, z i = 0) (hw : NeverZero w) :
    NeverZero (select (cmpf .une x z) x w) := fun i => by
  show (if BitVec.ofBool (decide (x i ≠ z i)) = 1 then x i else w i) ≠ 0
  split
  · rename_i h
    rw [hz] at h
    intro h0
    simp [h0] at h
  · exact hw i

end Ops

end Cert.Finite

end
-- ==== Proof.Descriptor.lean ====
/-
With finite inputs the descriptor is real everywhere: a reading of the reference's operations, from the inputs to the
concatenation of the three levels.
-/
module

public import proofs.«01_k».proof.Proof.Real

@[expose] public section

set_option maxRecDepth 16384

noncomputable section

namespace Cert.Finite

open Idealize.ShloMosaic Cert.ReferenceIdeal Cert.ReferenceIdeal.Gen Cert.ReferenceIdeal.Read

/-- The pattern of 0. -/
theorem bits_zero : Ideal.ofBits .f32 0x00000000#32 = ((0 : ℝ) : EReal) := by simp [Ideal.ofBits, Ideal.ieee]

/-- The pattern of 1/4. -/
theorem bits_quarter : Ideal.ofBits .f32 0x3E800000#32 = ((1 / 4 : ℝ) : EReal) := by
  simp [Ideal.ofBits, Ideal.ieee]
  rw [← EReal.coe_mul]
  norm_num

/-- The pattern of 1/2. -/
theorem bits_half : Ideal.ofBits .f32 0x3F000000#32 = ((1 / 2 : ℝ) : EReal) := by
  simp [Ideal.ofBits, Ideal.ieee]
  rw [← EReal.coe_mul]
  norm_num

/-- The pattern of 1. -/
theorem bits_one : Ideal.ofBits .f32 0x3F800000#32 = ((1 : ℝ) : EReal) := by
  simp [Ideal.ofBits, Ideal.ieee]
  rw [← EReal.coe_mul]
  norm_num

/-- The pattern of 2. -/
theorem bits_two : Ideal.ofBits .f32 0x40000000#32 = ((2 : ℝ) : EReal) := by
  simp [Ideal.ofBits, Ideal.ieee]
  rw [← EReal.coe_mul]
  norm_num

/-- The pattern of 9. -/
theorem bits_nine : Ideal.ofBits .f32 0x41100000#32 = ((9 : ℝ) : EReal) := by
  simp [Ideal.ofBits, Ideal.ieee]
  rw [← EReal.coe_mul]
  norm_num

/-- The pattern of 15. -/
theorem bits_15 : Ideal.ofBits .f32 0x41700000#32 = ((15 : ℝ) : EReal) := by
  simp [Ideal.ofBits, Ideal.ieee]
  rw [← EReal.coe_mul]
  norm_num

/-- The pattern of 31. -/
theorem bits_31 : Ideal.ofBits .f32 0x41F80000#32 = ((31 : ℝ) : EReal) := by
  simp [Ideal.ofBits, Ideal.ieee]
  rw [← EReal.coe_mul]
  norm_num

/-- The pattern of 63. -/
theorem bits_63 : Ideal.ofBits .f32 0x427C0000#32 = ((63 : ℝ) : EReal) := by
  simp [Ideal.ofBits, Ideal.ieee]
  rw [← EReal.coe_mul]
  norm_num

/-- An axis of `n` positions as coordinates from −1 to 1: positions over a nonzero constant, doubled, less one. -/
theorem coords {s : Shape} {p : FVec Ideal s .f32} {d two one : FVec Ideal s .f32} (hp : AllReal p) (hd : NeverZero d)
    (h2 : AllReal two) (h1 : AllReal one) : AllReal (subf (mulf (Host.divf p d) two) one) :=
  ((hp.divf hd).mulf h2).subf h1

/-- A scalar constant broadcast to an array is real. -/
theorem splat {t : Shape} {dims : Fin S_.rank → Fin t.rank} {h : S_.BroadcastsInDim t dims} {b : BitVec 32} {r : ℝ}
    (hb : Ideal.ofBits .f32 b = r) : AllReal (broadcastInDim t dims h (constant (F := Ideal) S_ .f32 b)) :=
  (allReal_constant hb).broadcastInDim

/-- A nonzero scalar constant broadcast to an array is never zero. -/
theorem splat_ne {t : Shape} {dims : Fin S_.rank → Fin t.rank} {h : S_.BroadcastsInDim t dims} {b : BitVec 32} {r : ℝ}
    (hb : Ideal.ofBits .f32 b = r) (hr : r ≠ 0) : NeverZero (broadcastInDim t dims h (constant (F := Ideal) S_ .f32 b)) :=
  (neverZero_constant hb hr).broadcastInDim

/-- The first level (64 × 64) is real. -/
theorem real_v27 {x0 : FVec Ideal S2x256x64x64 .f32} {x5 : FVec Ideal S256x258 .f32} {x6 : FVec Ideal S256 .f32}
    (h0 : AllReal x0) (h5 : AllReal x5) (h6 : AllReal x6) : AllReal (val_main_v27 (F := Ideal) x0 x5 x6) :=
  .addf
    (.transpose (.dotGeneral h5 (.concatenate
      (.divf (.reduceWindowAdd h0 (splat bits_zero)) (splat_ne bits_nine (by norm_num)))
      (.broadcastInDim (.broadcastInDim (coords (allReal_sitofp _) (splat_ne bits_63 (by norm_num)) (splat bits_two) (splat bits_one))))
      (.broadcastInDim (.broadcastInDim (coords (allReal_sitofp _) (splat_ne bits_63 (by norm_num)) (splat bits_two) (splat bits_one)))))))
    (.broadcastInDim (.broadcastInDim h6))

/-- The second level (32 × 32) is real. -/
theorem real_v55 {x1 : FVec Ideal S2x512x32x32 .f32} {x7 : FVec Ideal S512x514 .f32} {x8 : FVec Ideal S512 .f32}
    (h1 : AllReal x1) (h7 : AllReal x7) (h8 : AllReal x8) : AllReal (val_main_v55 (F := Ideal) x1 x7 x8) :=
  .addf
    (.transpose (.dotGeneral h7 (.concatenate
      (.divf (.reduceWindowAdd h1 (splat bits_zero)) (splat_ne bits_nine (by norm_num)))
      (.broadcastInDim (.broadcastInDim (coords (allReal_sitofp _) (splat_ne bits_31 (by norm_num)) (splat bits_two) (splat bits_one))))
      (.broadcastInDim (.broadcastInDim (coords (allReal_sitofp _) (splat_ne bits_31 (by norm_num)) (splat bits_two) (splat bits_one)))))))
    (.broadcastInDim (.broadcastInDim h8))

/-- The third level (16 × 16) is real. -/
theorem real_v172 {x2 : FVec Ideal S2x1024x16x16 .f32} {x9 : FVec Ideal S1024x1026 .f32} {x10 : FVec Ideal S1024 .f32}
    (h2 : AllReal x2) (h9 : AllReal x9) (h10 : AllReal x10) : AllReal (val_main_v172 (F := Ideal) x2 x9 x10) :=
  .addf
    (.transpose (.dotGeneral h9 (.concatenate
      (.divf (.reduceWindowAdd h2 (splat bits_zero)) (splat_ne bits_nine (by norm_num)))
      (.broadcastInDim (.broadcastInDim (coords (allReal_sitofp _) (splat_ne bits_15 (by norm_num)) (splat bits_two) (splat bits_one))))
      (.broadcastInDim (.broadcastInDim (coords (allReal_sitofp _) (splat_ne bits_15 (by norm_num)) (splat bits_two) (splat bits_one)))))))
    (.broadcastInDim (.broadcastInDim h10))

/-- A maximum with one is never zero. -/
theorem max_one_ne {s : Shape} {x : FVec Ideal s .f32} :
    NeverZero (maximumf x (constant (F := Ideal) s .f32 0x3F800000#32)) := fun i => by
  have h : (1 : EReal) ≤ max (x i) (Ideal.ofBits .f32 0x3F800000#32) := by
    rw [bits_one]; exact le_max_right _ _
  exact (zero_lt_one.trans_le h).ne'

/-- The word one, converted, is not zero. -/
theorem one_ne_zero_word : FloatOps.sitofp (F := Ideal) .f32 1#32 ≠ 0 := by
  show (((1#32).toInt : ℝ) : EReal) ≠ 0
  norm_num

/-- The triangle weights of the second level's resize, before they are normalised, are real: at most zero or one less the distance
    of a source position from a sample position, over a nonzero scale. -/
theorem real_v80 : AllReal (val_main_v80 (F := Ideal)) :=
  .maximumf (splat bits_zero) (.subf (splat bits_one) (.absf (.divf
    (.absf (.subf
      (.broadcastInDim (.broadcastInDim (.subf (.subf (.mulf (.addf (allReal_sitofp _) (splat bits_half)) (splat bits_half))
        (splat bits_zero)) (splat bits_half))))
      (.broadcastInDim (.broadcastInDim (allReal_sitofp _)))))
    (.broadcastInDim max_one_ne))))

/-- The weights of the second level's resize are real: the triangle weights over their sum, which is replaced by one where it is
    zero, and zero where the sum is tiny or the sample lies outside. -/
theorem real_v98 : AllReal (val_main_v98 (F := Ideal)) :=
  .select _
    (.select _
      (.divf real_v80 (.broadcastInDim (neverZero_select
        (fun _ => by exact bits_zero) (.broadcastInDim fun _ => by exact one_ne_zero_word))))
      (.broadcastInDim (allReal_sitofp _)))
    (.broadcastInDim (allReal_sitofp _))

/-- The triangle weights of the third level's resize, before they are normalised, are real: at most zero or one less the distance
    of a source position from a sample position, over a nonzero scale. -/
theorem real_v197 : AllReal (val_main_v197 (F := Ideal)) :=
  .maximumf (splat bits_zero) (.subf (splat bits_one) (.absf (.divf
    (.absf (.subf
      (.broadcastInDim (.broadcastInDim (.subf (.subf (.mulf (.addf (allReal_sitofp _) (splat bits_half)) (splat bits_quarter))
        (splat bits_zero)) (splat bits_half))))
      (.broadcastInDim (.broadcastInDim (allReal_sitofp _)))))
    (.broadcastInDim max_one_ne))))

/-- The weights of the third level's resize are real: the triangle weights over their sum, which is replaced by one where it is
    zero, and zero where the sum is tiny or the sample lies outside. -/
theorem real_v215 : AllReal (val_main_v215 (F := Ideal)) :=
  .select _
    (.select _
      (.divf real_v197 (.broadcastInDim (neverZero_select
        (fun _ => by exact bits_zero) (.broadcastInDim fun _ => by exact one_ne_zero_word))))
      (.broadcastInDim (allReal_sitofp _)))
    (.broadcastInDim (allReal_sitofp _))

/-- Level 2 is resized along both axes with the same table of weights. -/
theorem v141_eq : val_main_v141 (F := Ideal) = val_main_v98 (F := Ideal) := rfl

/-- Level 3 is resized along both axes with the same table of weights. -/
theorem v258_eq : val_main_v258 (F := Ideal) = val_main_v215 (F := Ideal) := rfl

section
variable {x0 : FVec Ideal S2x256x64x64 .f32} {x1 : FVec Ideal S2x512x32x32 .f32} {x2 : FVec Ideal S2x1024x16x16 .f32}
  {x5 : FVec Ideal S256x258 .f32} {x6 : FVec Ideal S256 .f32} {x7 : FVec Ideal S512x514 .f32} {x8 : FVec Ideal S512 .f32}
  {x9 : FVec Ideal S1024x1026 .f32} {x10 : FVec Ideal S1024 .f32}

/-- The second level, resized to 64 × 64, is real. -/
theorem real_v144 (h1 : AllReal x1) (h7 : AllReal x7) (h8 : AllReal x8) : AllReal (val_main_v144 (F := Ideal) x1 x7 x8) :=
  .transpose (.dotGeneral (.dotGeneral real_v98 (real_v55 h1 h7 h8)) (v141_eq ▸ real_v98))

/-- The third level, resized to 64 × 64, is real. -/
theorem real_v261 (h2 : AllReal x2) (h9 : AllReal x9) (h10 : AllReal x10) : AllReal (val_main_v261 (F := Ideal) x2 x9 x10) :=
  .transpose (.dotGeneral (.dotGeneral real_v215 (real_v172 h2 h9 h10)) (v258_eq ▸ real_v215))

/-- The descriptor is real, as the array of feature rows it is searched as. -/
theorem real_v264 (h0 : AllReal x0) (h1 : AllReal x1) (h2 : AllReal x2) (h5 : AllReal x5) (h6 : AllReal x6) (h7 : AllReal x7)
    (h8 : AllReal x8) (h9 : AllReal x9) (h10 : AllReal x10) :
    AllReal (val_main_v264 (F := Ideal) x0 x1 x2 x5 x6 x7 x8 x9 x10) :=
  .transpose (.shapeCast (.concatenate (real_v27 h0 h5 h6) (real_v144 h1 h7 h8) (real_v261 h2 h9 h10)))

end

end Cert.Finite

end
-- ==== Proof.Scores.lean ====
/-
The reference's distances, sorted, are the kernel's rows.
-/
module

public import proofs.«01_k».proof.Proof.TopK
public import proofs.«01_k».proof.Proof.Descriptor
public import proofs.«01_k».proof.Proof.Row

@[expose] public section

set_option maxRecDepth 16384

noncomputable section

namespace Cert.Scores

open Idealize.ShloMosaic Cert.ReferenceIdeal Cert.ReferenceIdeal.Gen Cert.ReferenceIdeal.Read Cert.Finite
open Cert.KernelIdeal.Value (sqNorm centNorm inner key minKey lift rowOut)

/-- The exact square root is monotone. -/
theorem sqrt_mono : Monotone Ideal.sqrt := by
  intro x y h
  induction x with
  | bot => exact bot_le
  | top => rw [top_le_iff.1 h]
  | coe a =>
    induction y with
    | bot => exact absurd h (by simp)
    | top => exact le_top
    | coe b =>
      have hab : a ≤ b := by exact_mod_cast h
      show (if a < 0 then (⊥ : EReal) else (Real.sqrt a : EReal)) ≤ if b < 0 then (⊥ : EReal) else (Real.sqrt b : EReal)
      split
      · exact bot_le
      · rw [if_neg (by linarith)]
        exact_mod_cast Real.sqrt_le_sqrt hab

/-- Subtracting a real number and adding it back changes nothing. -/
theorem shift {f k m : EReal} (hk : IsReal k) (hm : IsReal m) : f + m + (k - m) = f + k := by
  obtain ⟨a, rfl⟩ := hk
  obtain ⟨b, rfl⟩ := hm
  rw [add_assoc, ← EReal.coe_sub, ← EReal.coe_add, add_sub_cancel]

variable {p : Fin 1792 → EReal} {C : FVec Ideal S1792x4096 .f32}

/-- With a real row and real centroids every key is real. -/
theorem isReal_key (hp : ∀ k, IsReal (p k)) (hC : AllReal C) (j : Fin 4096) : IsReal (key p C j) :=
  (IsReal.sum fun _ _ => (hC _).mul (hC _)).sub (.mul ⟨_, bits_two⟩ (.sum fun _ _ => (hp _).mul (hC _)))

/-- The least of finitely many real numbers is real. -/
theorem isReal_minKey (hp : ∀ k, IsReal (p k)) (hC : AllReal C) : IsReal (minKey p C) := by
  have h : ∀ s : Finset (Fin 4096), s.Nonempty → IsReal (s.fold min (Ideal.ofBits .f32 0x7F800000#32) (key p C)) := by
    intro s hs
    induction hs using Finset.Nonempty.cons_induction with
    | singleton a =>
      rw [Finset.fold_singleton, show Ideal.ofBits .f32 0x7F800000#32 = (⊤ : EReal) by simp [Ideal.ofBits, Ideal.ieee], min_top_right]
      exact isReal_key hp hC a
    | cons a s ha hs ih =>
      rw [Finset.fold_cons]
      rcases min_choice (key p C a) (s.fold min (Ideal.ofBits .f32 0x7F800000#32) (key p C)) with e | e <;> rw [e]
      · exact isReal_key hp hC a
      · exact ih
  exact h _ ⟨0, Finset.mem_univ _⟩

/-- The kernel's place `l` of a row is the `l`-th smallest distance, in whatever way the distances are sorted. -/
theorem rowOut_sorted (hp : ∀ k, IsReal (p k)) (hC : AllReal C) {σ : Fin 4096 → Fin 4096} (hσ : Function.Bijective σ)
    (hm : Monotone fun l => Ideal.sqrt (sqNorm p + key p C (σ l))) (l : Fin 4096) (hl : l.val < 256) :
    rowOut p C l.val = Ideal.sqrt (sqNorm p + key p C (σ l)) := by
  have hmin := isReal_minKey hp hC
  have hs : ∀ j, Ideal.sqrt (sqNorm p + minKey p C + (key p C j - minKey p C)) = Ideal.sqrt (sqNorm p + key p C j) := fun j => by
    rw [shift (isReal_key hp hC j) hmin]
  rw [← hs]
  refine TopK.top256_sorted (e := fun j => key p C j - minKey p C) (a := lift p C) (fun j => ?_)
    (g := fun y => Ideal.sqrt (sqNorm p + minKey p C + y)) (fun x y h => sqrt_mono (add_le_add_right h _)) hσ ?_ l hl
  · unfold lift
    rw [dif_pos j.isLt]
  · simpa only [hs] using hm

section
variable (x0 : FVec Ideal S2x256x64x64 .f32) (x1 : FVec Ideal S2x512x32x32 .f32) (x2 : FVec Ideal S2x1024x16x16 .f32)
  (x5 : FVec Ideal S256x258 .f32) (x6 : FVec Ideal S256 .f32) (x7 : FVec Ideal S512x514 .f32) (x8 : FVec Ideal S512 .f32)
  (x9 : FVec Ideal S1024x1026 .f32) (x10 : FVec Ideal S1024 .f32) (x11 : FVec Ideal S1792x4096 .f32)

/-- The features of pixel `n` of image `b`. -/
def row (b : Fin 2) (n : Fin 4096) (k : Fin 1792) : EReal :=
  val_main_v264 (F := Ideal) x0 x1 x2 x5 x6 x7 x8 x9 x10 (ValueIdx.ix3 b n k)

/-- The reference's negated distance of a pixel to a centroid. -/
theorem neg_dist (b : Fin 2) (n : Fin 4096) (j : Fin 4096) :
    val_main_v280 (F := Ideal) x0 x1 x2 x5 x6 x7 x8 x9 x10 x11 (ValueIdx.ix3 b n j)
      = -Ideal.sqrt (sqNorm (row x0 x1 x2 x5 x6 x7 x8 x9 x10 b n) + key (row x0 x1 x2 x5 x6 x7 x8 x9 x10 b n) x11 j) := by
  have hf : val_main_v275 (F := Ideal) x0 x1 x2 x5 x6 x7 x8 x9 x10 (ValueIdx.ix3 b n j)
      = sqNorm (row x0 x1 x2 x5 x6 x7 x8 x9 x10 b n) := by
    rw [val_main_v275_apply, val_main_v267_apply, val_main_v266_apply]
    refine (congrArg₂ (· + ·) bits_zero rfl).trans ((zero_add _).trans ?_)
    refine Finset.sum_congr rfl fun k _ => ?_
    have e : idx_main_v266 (idx_main_v267 (idx_main_v275 (ValueIdx.ix3 b n j))) k = ValueIdx.ix3 b n k := by
      funext a; fin_cases a <;> rfl
    rw [e, val_main_v265_apply]
    rfl
  have hc : val_main_v276 (F := Ideal) x11 (ValueIdx.ix3 b n j) = centNorm x11 j := by
    rw [val_main_v276_apply, val_main_v274_apply, val_main_v270_apply, val_main_v269_apply]
    refine (congrArg₂ (· + ·) bits_zero rfl).trans ((zero_add _).trans ?_)
    refine Finset.sum_congr rfl fun k _ => ?_
    have e : idx_main_v269 (idx_main_v270 (idx_main_v274 (idx_main_v276 (ValueIdx.ix3 b n j)))) k = ValueIdx.ix2 k j := by
      funext a; fin_cases a <;> rfl
    rw [e, val_main_v268_apply]
    rfl
  have hd : val_main_v273 (F := Ideal) x0 x1 x2 x5 x6 x7 x8 x9 x10 x11 (ValueIdx.ix3 b n j)
      = Ideal.ofBits .f32 0x40000000#32 * inner (row x0 x1 x2 x5 x6 x7 x8 x9 x10 b n) x11 j := by
    rw [val_main_v273_apply, val_main_v271_apply, val_main_v272_apply]
    refine congrArg₂ (· * ·) rfl (Finset.sum_congr rfl fun k _ => ?_)
    have e : lidx_main_v271 (ValueIdx.ix3 b n j) k = ValueIdx.ix3 b n k := by
      funext a; fin_cases a <;> rfl
    have e' : ridx_main_v271 (ValueIdx.ix3 b n j) k = ValueIdx.ix2 k j := by
      funext a; fin_cases a <;> rfl
    rw [e, e']
    rfl
  have he : val_main_v280 (F := Ideal) x0 x1 x2 x5 x6 x7 x8 x9 x10 x11 (ValueIdx.ix3 b n j)
      = -Ideal.sqrt (val_main_v275 (F := Ideal) x0 x1 x2 x5 x6 x7 x8 x9 x10 (ValueIdx.ix3 b n j)
        + val_main_v276 (F := Ideal) x11 (ValueIdx.ix3 b n j)
        - val_main_v273 (F := Ideal) x0 x1 x2 x5 x6 x7 x8 x9 x10 x11 (ValueIdx.ix3 b n j)) := rfl
  rw [he, hf, hc, hd]
  unfold key
  rw [sub_eq_add_neg, add_assoc, ← sub_eq_add_neg]

variable {x0 x1 x2 x5 x6 x7 x8 x9 x10 x11}

/-- The reference's `l`-th least distance of a pixel is what the kernel writes at place `l` of the pixel's row. -/
theorem values_eq (hp : AllReal (val_main_v264 (F := Ideal) x0 x1 x2 x5 x6 x7 x8 x9 x10)) (hC : AllReal x11) (b : Fin 2)
    (n : Fin 4096) (l : Fin 200) :
    val_main_v281 (F := Ideal) x0 x1 x2 x5 x6 x7 x8 x9 x10 x11 (ValueIdx.ix3 b n l)
      = rowOut (row x0 x1 x2 x5 x6 x7 x8 x9 x10 b n) x11 l.val := by
  obtain ⟨σ, hσ, hz, h⟩ := TopK.topK_sorted (val_main_v280 (F := Ideal) x0 x1 x2 x5 x6 x7 x8 x9 x10 x11)
    sliceFits_S2x4096x4096_S2x4096x200 b n
  have hl : l.val < 4096 := by omega
  rw [val_main_v281_apply]
  refine (congrArg (fun y : EReal => -y) (h l ⟨l.val, hl⟩ rfl)).trans ?_
  simp only [neg_dist] at hz ⊢
  rw [neg_neg]
  refine (rowOut_sorted (fun k => hp _) hC hσ (fun i j hij => ?_) ⟨l.val, hl⟩ (by show l.val < 256; omega)).symm
  exact EReal.neg_le_neg_iff.1 (hz hij)

end

end Cert.Scores

end
-- ==== Proof.Match.lean ====
/-
The kernel's two results are the reference's, when the inputs are finite.
-/
module

public import proofs.«01_k».proof.Proof.Host
public import proofs.«01_k».proof.Proof.Results
public import proofs.«01_k».proof.Proof.Scores

@[expose] public section

set_option maxRecDepth 16384

noncomputable section

namespace Cert.KernelIdeal.Value

open Idealize.ShloMosaic hiding ix0 ix1 ix2 ix3 ix4 ix5
open Idealize.ShloMosaic.TcCoe Idealize.SL.Sem Idealize.ShloMosaic.ValueIdx
open Cert.KernelIdeal Cert.KernelIdeal.Gen Cert.ReferenceIdeal.Read Cert.Finite

/-- Where a score is read: the pixel's row, the place's column. -/
theorem scores_apply (R : FVec Ideal S8192x256 .f32) (b : Fin 2) (l : Fin 200) (y x : Fin 64) (r : Fin 8192) (l' : Fin 256)
    (hr : r.val = b.val * 4096 + y.val * 64 + x.val) (hl : l'.val = l.val) : scores R (ix4 b l y x) = R (ix2 r l') := by
  unfold scores
  rw [transpose_apply [0, 3, 1, 2] _ _ (ix4 b l y x) (ix4 b y x l : S2x64x64x200.Idx) (fun a => by fin_cases a <;> rfl),
    shapeCast_apply _ _ (ix4 b y x l : S2x64x64x200.Idx) (ix2 r l : S8192x200.Idx) (by
      rw [Shape.rowMajor_val_two, Shape.rowMajor_val_four]
      show r.val * 200 + l.val = ((b.val * 64 + y.val) * 64 + x.val) * 200 + l.val
      omega)]
  refine congrArg R (funext fun a => Fin.ext ?_)
  fin_cases a
  · exact Nat.zero_add _
  · exact (Nat.zero_add _).trans hl.symm

/-- Where a row of the launch's first operand is read in the array of feature rows by image. -/
theorem rows_apply (P : FVec Ideal S2x4096x1792 .f32) (h : S2x4096x1792.ShapeCasts S8192x1792) (b : Fin 2) (n : Fin 4096)
    (k : Fin 1792) (r : Fin 8192) (hr : r.val = b.val * 4096 + n.val) : shapeCast S8192x1792 P h (ix2 r k) = P (ix3 b n k) :=
  shapeCast_apply _ _ _ _ (by
    rw [Shape.rowMajor_val_three, Shape.rowMajor_val_two]
    show (b.val * 4096 + n.val) * 1792 + k.val = r.val * 1792 + k.val
    rw [hr])

variable (m : (ℓ : Loc nD τ sig) → Buf (Elt Ideal) ℓ) (c : Dev nD)

/-- The reference's first result, on the kernel's arguments. -/
abbrev refScores : FVec Ideal S2x200x64x64 .f32 := val_main_v283 (F := Ideal) (m ((c : Thread nD τ).loc main_arg0))
  (m ((c : Thread nD τ).loc main_arg1)) (m ((c : Thread nD τ).loc main_arg2)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))

/-- The reference's second result, on the kernel's arguments. -/
abbrev refHalf : FVec Ideal S2x896x64x64 .f32 := val_main_v284 (F := Ideal) (m ((c : Thread nD τ).loc main_arg0))
  (m ((c : Thread nD τ).loc main_arg1)) (m ((c : Thread nD τ).loc main_arg2)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10))

/-- The reference's array of feature rows, on the kernel's arguments. -/
abbrev refRows : FVec Ideal S2x4096x1792 .f32 := val_main_v264 (F := Ideal) (m ((c : Thread nD τ).loc main_arg0))
  (m ((c : Thread nD τ).loc main_arg1)) (m ((c : Thread nD τ).loc main_arg2)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10))

/-- The second result is the reference's. -/
theorem half_eq : half (V m c main_v195) = refHalf m c := by
  rw [phi_eq]
  rfl

/-- The launch's first operand is the reference's array of feature rows. -/
theorem feats_eq : feats m c = shapeCast S8192x1792 (refRows m c) shapeCasts_S2x4096x1792_S8192x1792 := by
  unfold feats
  rw [host_v198, phi_eq]
  rfl

/-- With real features and centroids the first result is the reference's. -/
theorem scores_eq (hp : AllReal (refRows m c)) (hC : AllReal (cents m c)) : scores (result m c) = refScores m c := by
  funext i
  obtain ⟨b, l, y, x, rfl⟩ : ∃ b l y x, i = ix4 b l y x := ⟨_, _, _, _, ValueIdx.eq_ix4 i⟩
  have hy := y.isLt
  have hx := x.isLt
  have hb := b.isLt
  have hl := l.isLt
  let n : Fin 4096 := ⟨y.val * 64 + x.val, by omega⟩
  let r : Fin 8192 := ⟨b.val * 4096 + y.val * 64 + x.val, by omega⟩
  rw [scores_apply (result m c) b l y x r ⟨l.val, by omega⟩ rfl rfl, refScores, val_main_v283_apply, val_main_v282_apply]
  have e : idx_main_v282 (idx_main_v283 (ix4 b l y x)) = ix3 b n l := by
    funext a
    apply Fin.ext
    fin_cases a
    · show (((b.val * 64 + y.val) * 64 + x.val) * 200 + l.val) / 819200 = b.val
      omega
    · show (((b.val * 64 + y.val) * 64 + x.val) * 200 + l.val) / 200 % 4096 = y.val * 64 + x.val
      omega
    · show (((b.val * 64 + y.val) * 64 + x.val) * 200 + l.val) % 200 = l.val
      omega
  rw [e]
  refine Eq.trans ?_ (Scores.values_eq hp hC b n l).symm
  show rowOut (fun k => feats m c (ix2 r k)) (cents m c) l.val = _
  refine congrArg (rowOut · (cents m c) l.val) (funext fun k => ?_)
  rw [feats_eq]
  exact rows_apply _ _ b n k r (Nat.add_assoc _ _ _)

end Cert.KernelIdeal.Value

end
-- ==== Proof.Inputs.lean ====
/-
The precondition `finite`: what it says of the arguments.
-/
module

public import proofs.«01_k».proof.Defs
public import proofs.«01_k».proof.Proof.Real

@[expose] public section

noncomputable section

namespace Cert.Finite

open Idealize.ShloMosaic

/-- The shape facts the precondition's operations state. -/
theorem preFacts : Cert.Pre_finite.Facts where
  bcast_S_S2x256x64x64 := by decide
  bcast_S_S2x512x32x32 := by decide
  bcast_S_S2x1024x16x16 := by decide
  bcast_S_S256x258 := by decide
  bcast_S_S256 := by decide
  bcast_S_S512x514 := by decide
  bcast_S_S512 := by decide
  bcast_S_S1024x1026 := by decide
  bcast_S_S1024 := by decide
  bcast_S_S1792x4096 := by decide

/-- An extended real whose absolute value lies below infinity is real. -/
theorem isReal_of_abs {x : EReal} (h : max x (-x) < ⊤) : IsReal x := by
  induction x with
  | bot => simp at h
  | top => simp at h
  | coe r => exact ⟨r, rfl⟩

/-- An array whose absolute values all lie below infinity is real. -/
theorem allReal_of_mask {s u : Shape} {dims : Fin u.rank → Fin s.rank} {h : u.BroadcastsInDim s dims} {x : FVec Ideal s .f32}
    (hx : cmpf .olt (Host.absf x) (broadcastInDim s dims h (constant (F := Ideal) u .f32 0x7F800000#32)) = fun _ => 1#1) :
    AllReal x := fun i => by
  have hi : BitVec.ofBool (decide (max (x i) (-x i) < Ideal.ofBits .f32 0x7F800000#32)) = 1#1 := congrFun hx i
  rw [show Ideal.ofBits .f32 0x7F800000#32 = (⊤ : EReal) by simp [Ideal.ofBits, Ideal.ieee]] at hi
  refine isReal_of_abs ?_
  by_contra hn
  simp [hn] at hi

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Match
public import proofs.«01_k».proof.Proof.Inputs
public import Idealize.ShloMosaic.Lib.Claim
public import Idealize.ShloMosaic.Adequacy
public import Idealize.ShloMosaic.Init

@[expose] public section

noncomputable section

namespace Cert.Proof

open Idealize.ShloMosaic Idealize.SL.Sem Cert.Finite
open Cert.KernelIdeal.Value (scores result half scores_eq half_eq run_results refScores refHalf)

/-- With finite inputs the kernel's two results are the reference's. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hargs
  refine ⟨fun c => refScores m c, fun c => refHalf m c, ?_, ?_⟩
  · refine (θ_run _ _ _).mono (fun r h c => ⟨?_, ?_, h.2 c⟩) (θ_run_and (run_results m ρ) (Cert.KernelIdeal.Gen.unchanged m ρ))
    · rw [(h.1 c).1]
      obtain ⟨h0, h1, h2, h5, h6, h7, h8, h9, h10, h11⟩ := hpre c
      exact scores_eq m c (real_v264 (allReal_of_mask h0) (allReal_of_mask h1) (allReal_of_mask h2) (allReal_of_mask h5)
        (allReal_of_mask h6) (allReal_of_mask h7) (allReal_of_mask h8) (allReal_of_mask h9) (allReal_of_mask h10))
        (allReal_of_mask h11)
    · rw [(h.1 c).2]
      exact half_eq m c
  · refine (θ_run _ _ _).mono (fun r h c => ⟨?_, ?_, (h c).2.2⟩) (Cert.ReferenceIdeal.Value.run (F := Ideal) m' ρ')
    · obtain ⟨e0, e1, e2, -, -, e5, e6, e7, e8, e9, e10, e11⟩ := hargs c
      rw [(h c).1, Cert.ReferenceIdeal.Read.val_main_v283_eq]
      rw [show StableHlo.launchContents m' c (Proc.devRef .tc Cert.ReferenceIdeal.main_arg0) = _ from e0,
        show StableHlo.launchContents m' c (Proc.devRef .tc Cert.ReferenceIdeal.main_arg1) = _ from e1,
        show StableHlo.launchContents m' c (Proc.devRef .tc Cert.ReferenceIdeal.main_arg2) = _ from e2,
        show StableHlo.launchContents m' c (Proc.devRef .tc Cert.ReferenceIdeal.main_arg5) = _ from e5,
        show StableHlo.launchContents m' c (Proc.devRef .tc Cert.ReferenceIdeal.main_arg6) = _ from e6,
        show StableHlo.launchContents m' c (Proc.devRef .tc Cert.ReferenceIdeal.main_arg7) = _ from e7,
        show StableHlo.launchContents m' c (Proc.devRef .tc Cert.ReferenceIdeal.main_arg8) = _ from e8,
        show StableHlo.launchContents m' c (Proc.devRef .tc Cert.ReferenceIdeal.main_arg9) = _ from e9,
        show StableHlo.launchContents m' c (Proc.devRef .tc Cert.ReferenceIdeal.main_arg10) = _ from e10,
        show StableHlo.launchContents m' c (Proc.devRef .tc Cert.ReferenceIdeal.main_arg11) = _ from e11]
    · obtain ⟨e0, e1, e2, -, -, e5, e6, e7, e8, e9, e10, -⟩ := hargs c
      rw [(h c).2.1, Cert.ReferenceIdeal.Read.val_main_v284_eq]
      rw [show StableHlo.launchContents m' c (Proc.devRef .tc Cert.ReferenceIdeal.main_arg0) = _ from e0,
        show StableHlo.launchContents m' c (Proc.devRef .tc Cert.ReferenceIdeal.main_arg1) = _ from e1,
        show StableHlo.launchContents m' c (Proc.devRef .tc Cert.ReferenceIdeal.main_arg2) = _ from e2,
        show StableHlo.launchContents m' c (Proc.devRef .tc Cert.ReferenceIdeal.main_arg5) = _ from e5,
        show StableHlo.launchContents m' c (Proc.devRef .tc Cert.ReferenceIdeal.main_arg6) = _ from e6,
        show StableHlo.launchContents m' c (Proc.devRef .tc Cert.ReferenceIdeal.main_arg7) = _ from e7,
        show StableHlo.launchContents m' c (Proc.devRef .tc Cert.ReferenceIdeal.main_arg8) = _ from e8,
        show StableHlo.launchContents m' c (Proc.devRef .tc Cert.ReferenceIdeal.main_arg9) = _ from e9,
        show StableHlo.launchContents m' c (Proc.devRef .tc Cert.ReferenceIdeal.main_arg10) = _ from e10]

/-- Everything the certificate claims. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  fun m ρ _ => (θ_run Cert.ReferenceIdeal.defs _ _).mono (fun r h => ⟨fun c => (h c).2.2,
      Idealize.ShloMosaic.sem_eq_zero_of_no_sems (by decide) r.2⟩) (Cert.ReferenceIdeal.Value.run m ρ),
  fun m ρ _ => (θ_run Cert.ReferenceIdeal.defs _ _).mono (fun r h => ⟨fun c => (h c).2.2,
      Idealize.ShloMosaic.sem_eq_zero_of_no_sems (by decide) r.2⟩) (Cert.ReferenceIdeal.Value.run m ρ),
  trivial, algebraic⟩

end Cert.Proof

end
